-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S4x2048x6656 : Shape := ⟨3, ![4, 2048, 6656]⟩
abbrev S4 : Shape := ⟨1, ![4]⟩
abbrev S4x2048x512 : Shape := ⟨3, ![4, 2048, 512]⟩
abbrev S4x2048x256 : Shape := ⟨3, ![4, 2048, 256]⟩
abbrev S_ : Shape := ⟨0, ![]⟩

class Facts : Prop where
  slices_S4x2048x6656_S4x2048x512_0_0_512 : S4x2048x6656.Slices ![0, 0, 512] S4x2048x512
  slices_S4x2048x6656_S4x2048x256_0_0_5888 : S4x2048x6656.Slices ![0, 0, 5888] S4x2048x256
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048x256 : S_.BroadcastsInDim S4x2048x256 (![] : Fin 0 → Fin S4x2048x256.rank)
  reducesTo_S4x2048x256_S_d0_1_2 : S4x2048x256.ReducesTo [0, 1, 2] S_
  bcast_S_S4 : S_.BroadcastsInDim S4 (![] : Fin 0 → Fin S4.rank)
  reducesTo_S4_S_d0 : S4.ReducesTo [0] S_

variable [Facts]

def fn {F : FTy → Type} [FloatOps F] (main_arg0 : FVec F S4x2048x6656 .f32) (main_arg1 : FVec F S4 .f32) : IVec S_ 1 :=
  let main_v0 : FVec F S4x2048x512 .f32 := (extractStridedSlice S4x2048x512 ![0, 0, 512] · slices_S4x2048x6656_S4x2048x512_0_0_512) main_arg0
  let main_v1 : FVec F S4x2048x256 .f32 := (extractStridedSlice S4x2048x256 ![0, 0, 5888] · slices_S4x2048x6656_S4x2048x256_0_0_5888) main_arg0
  let main_v2 : FVec F S4x2048x512 .f32 := Host.absf main_v0
  let main_cst : FVec F S_ .f32 := constant S_ .f32 0x7F800000#32
  let main_v3 : FVec F S4x2048x512 .f32 := broadcastInDim S4x2048x512 ![] bcast_S_S4x2048x512 main_cst
  let main_v4 : IVec S4x2048x512 1 := cmpf .olt main_v2 main_v3
  let main_c : IVec S_ 1 := constantI S_ 1 1#1
  let main_v5 : IVec S_ 1 := (fun x v => Host.reduce IntOp.andi x v reducesTo_S4x2048x512_S_d0_1_2 h_S_) main_v4 main_c
  let main_v6 : FVec F S4x2048x256 .f32 := Host.absf main_v1
  let main_cst_0 : FVec F S_ .f32 := constant S_ .f32 0x7F800000#32
  let main_v7 : FVec F S4x2048x256 .f32 := broadcastInDim S4x2048x256 ![] bcast_S_S4x2048x256 main_cst_0
  let main_v8 : IVec S4x2048x256 1 := cmpf .olt main_v6 main_v7
  let main_c_1 : IVec S_ 1 := constantI S_ 1 1#1
  let main_v9 : IVec S_ 1 := (fun x v => Host.reduce IntOp.andi x v reducesTo_S4x2048x256_S_d0_1_2 h_S_) main_v8 main_c_1
  let main_v10 : IVec S_ 1 := andi main_v5 main_v9
  let main_v11 : FVec F S4 .f32 := Host.absf main_arg1
  let main_cst_2 : FVec F S_ .f32 := constant S_ .f32 0x7F800000#32
  let main_v12 : FVec F S4 .f32 := broadcastInDim S4 ![] bcast_S_S4 main_cst_2
  let main_v13 : IVec S4 1 := cmpf .olt main_v11 main_v12
  let main_c_3 : IVec S_ 1 := constantI S_ 1 1#1
  let main_v14 : IVec S_ 1 := (fun x v => Host.reduce IntOp.andi x v reducesTo_S4_S_d0 h_S_) main_v13 main_c_3
  let main_v15 : IVec S_ 1 := andi main_v10 main_v14
  main_v15
-- ==== Pre_routed.lean ====
abbrev S24576x2048 : Shape := ⟨2, ![24576, 2048]⟩
abbrev S24576x1 : Shape := ⟨2, ![24576, 1]⟩
abbrev S24 : Shape := ⟨1, ![24]⟩
abbrev S1 : Shape := ⟨1, ![1]⟩
abbrev S8x2048x7168 : Shape := ⟨3, ![8, 2048, 7168]⟩
abbrev S8x7168x2048 : Shape := ⟨3, ![8, 7168, 2048]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel
  shapeCasts_S1_S_ : S1.ShapeCasts S_

variable [Facts]

def fn {F : FTy → Type} [FloatOps F] (main_arg0 : FVec F S24576x2048 .bf16) (main_arg1 : FVec F S24576x1 .f32) (main_arg2 : IVec S24 32) (main_arg3 : IVec S1 32) (main_arg4 : FVec F S8x2048x7168 .f32) (main_arg5 : FVec F S8x2048x7168 .f32) (main_arg6 : FVec F S8x7168x2048 .f32) : IVec S_ 1 :=
  let main_c : IVec S_ 32 := constantI S_ 32 0#32
  let main_v0 : IVec S24 32 := broadcastInDim S24 ![] bcast_S_S24 main_c
  let main_v1 : IVec S24 1 := cmpi .sge main_arg2 main_v0
  let main_c_0 : IVec S_ 32 := constantI S_ 32 8#32
  let main_v2 : IVec S24 32 := broadcastInDim S24 ![] bcast_S_S24 main_c_0
  let main_v3 : IVec S24 1 := cmpi .slt main_arg2 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  let main_v6 : IVec S_ 32 := shapeCast S_ main_arg3 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg3 shapeCasts_S1_S_
  let main_c_3 : IVec S_ 32 := constantI S_ 32 24#32
  let main_v10 : IVec S_ 1 := cmpi .sle main_v9 main_c_3
  let main_v11 : IVec S_ 1 := andi main_v8 main_v10
  main_v11
-- ==== Kernel.lean ====
abbrev S4x2048x6656 : Shape := ⟨3, ![4, 2048, 6656]⟩
abbrev S4 : Shape := ⟨1, ![4]⟩
abbrev S4x2048x512 : Shape := ⟨3, ![4, 2048, 512]⟩
abbrev S1x128x512 : Shape := ⟨3, ![1, 128, 512]⟩
abbrev S1x2048x256 : Shape := ⟨3, ![1, 2048, 256]⟩
abbrev S256x1 : Shape := ⟨2, ![256, 1]⟩
abbrev S128x512 : Shape := ⟨2, ![128, 512]⟩
abbrev S128x128 : Shape := ⟨2, ![128, 128]⟩
abbrev S256x128 : Shape := ⟨2, ![256, 128]⟩
abbrev S1 : Shape := ⟨1, ![1]⟩
abbrev S1x128x128 : Shape := ⟨3, ![1, 128, 128]⟩
abbrev S256 : Shape := ⟨1, ![256]⟩

abbrev nBuf : Space → Nat
  | .hbm => 3
  | .vmem => 8
  | .smem => 1
  | _ => 0

abbrev bufTy : (tb : Table) → Fin (tcTables nBuf tb) → BufTy
  | .hbm, ⟨0, _⟩ => ⟨S4x2048x6656, .f32⟩
  | .hbm, ⟨1, _⟩ => ⟨S4, .f32⟩
  | .hbm, ⟨2, _⟩ => ⟨S4x2048x512, .bf16⟩
  | .local _ .vmem, ⟨0, _⟩ => ⟨S1x128x512, .f32⟩
  | .local _ .vmem, ⟨1, _⟩ => ⟨S1x128x512, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x128x512, .bf16⟩
  | .local _ .vmem, ⟨7, _⟩ => ⟨S1x128x512, .bf16⟩
  | .local _ .smem, ⟨0, _⟩ => ⟨S4, .f32⟩
  | _, _ => ⟨S4x2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_7 : BitVec 32 := 1#32
  let v32 : BitVec 32 := Scalar.addi arg1 c1_i32_7
  let v37 : BitVec 32 := Scalar.subi v32 v31
  let c1_i32_11 : BitVec 32 := 1#32
  let v39 : BitVec 32 := Scalar.divsi v37 c1_i32_11
  let v40 : BitVec 32 := Scalar.muli v39 c1_i32_11
  let v41 : BitVec 32 := Scalar.addi v31 v40
  let c1_i32_12 : BitVec 32 := 1#32
  ⟨v31, v41, c1_i32_12⟩
def k0_mult1 (i : grid0.Coords) (k0_t1 : Fin (k0_t1_loop i).trips) : BitVec 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_12 : BitVec 32 := 1#32
  let arg7 : BitVec 32 := Scf.iv v31 c1_i32_12 k0_t1
  let c128_i32_35 : BitVec 32 := 128#32
  let v113 : BitVec 32 := Scalar.muli arg7 c128_i32_35
  v113
def k0_off1 (i : grid0.Coords) (k0_t1 : Fin (k0_t1_loop i).trips) : Fin 3 → Nat :=
  let c0_36 : Index := 0#32
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_12 : BitVec 32 := 1#32
  let arg7 : BitVec 32 := Scf.iv v31 c1_i32_12 k0_t1
  let c128_i32_35 : BitVec 32 := 128#32
  let v113 : BitVec 32 := Scalar.muli arg7 c128_i32_35
  let v114 : BitVec 32 := v113
  let v115 : Index := Scalar.indexCast v114
  let c0_37 : Index := 0#32
  ![0, v115.toNat, 0]
def k0_mult2 (i : grid0.Coords) (k0_t1 : Fin (k0_t1_loop i).trips) : BitVec 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_12 : BitVec 32 := 1#32
  let arg7 : BitVec 32 := Scf.iv v31 c1_i32_12 k0_t1
  let c128_i32_38 : BitVec 32 := 128#32
  let v119 : BitVec 32 := Scalar.muli arg7 c128_i32_38
  v119
@[reducible] def k0_t2_loop (i : grid0.Coords) : Scf.Loop 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_7 : BitVec 32 := 1#32
  let v32 : BitVec 32 := Scalar.addi arg1 c1_i32_7
  let v37 : BitVec 32 := Scalar.subi v32 v31
  let c1_i32_11 : BitVec 32 := 1#32
  let v39 : BitVec 32 := Scalar.divsi v37 c1_i32_11
  let v40 : BitVec 32 := Scalar.muli v39 c1_i32_11
  let v41 : BitVec 32 := Scalar.addi v31 v40
  let v38 : BitVec 32 := Scalar.addi v31 v37
  let c1_i32_13 : BitVec 32 := 1#32
  ⟨v41, v38, c1_i32_13⟩
def k0_mult3 (i : grid0.Coords) (k0_t2 : Fin (k0_t2_loop i).trips) : BitVec 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_7 : BitVec 32 := 1#32
  let v32 : BitVec 32 := Scalar.addi arg1 c1_i32_7
  let v37 : BitVec 32 := Scalar.subi v32 v31
  let c1_i32_11 : BitVec 32 := 1#32
  let v39 : BitVec 32 := Scalar.divsi v37 c1_i32_11
  let v40 : BitVec 32 := Scalar.muli v39 c1_i32_11
  let v41 : BitVec 32 := Scalar.addi v31 v40
  let c1_i32_13 : BitVec 32 := 1#32
  let arg7 : BitVec 32 := Scf.iv v41 c1_i32_13 k0_t2
  let c128_i32_35 : BitVec 32 := 128#32
  let v113 : BitVec 32 := Scalar.muli arg7 c128_i32_35
  v113
def k0_off2 (i : grid0.Coords) (k0_t2 : Fin (k0_t2_loop i).trips) : Fin 3 → Nat :=
  let c0_36 : Index := 0#32
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_7 : BitVec 32 := 1#32
  let v32 : BitVec 32 := Scalar.addi arg1 c1_i32_7
  let v37 : BitVec 32 := Scalar.subi v32 v31
  let c1_i32_11 : BitVec 32 := 1#32
  let v39 : BitVec 32 := Scalar.divsi v37 c1_i32_11
  let v40 : BitVec 32 := Scalar.muli v39 c1_i32_11
  let v41 : BitVec 32 := Scalar.addi v31 v40
  let c1_i32_13 : BitVec 32 := 1#32
  let arg7 : BitVec 32 := Scf.iv v41 c1_i32_13 k0_t2
  let c128_i32_35 : BitVec 32 := 128#32
  let v113 : BitVec 32 := Scalar.muli arg7 c128_i32_35
  let v114 : BitVec 32 := v113
  let v115 : Index := Scalar.indexCast v114
  let c0_37 : Index := 0#32
  ![0, v115.toNat, 0]
def k0_mult4 (i : grid0.Coords) (k0_t2 : Fin (k0_t2_loop i).trips) : BitVec 32 :=
  let arg1 : BitVec 32 := BitVec.ofNat 32 (i 1).val
  let c1_i32 : BitVec 32 := 1#32
  let v30 : BitVec 32 := Scalar.subi arg1 c1_i32
  let c0_i32_6 : BitVec 32 := 0#32
  let v31 : BitVec 32 := Scalar.maxsi v30 c0_i32_6
  let c1_i32_7 : BitVec 32 := 1#32
  let v32 : BitVec 32 := Scalar.addi arg1 c1_i32_7
  let v37 : BitVec 32 := Scalar.subi v32 v31
  let c1_i32_11 : BitVec 32 := 1#32
  let v39 : BitVec 32 := Scalar.divsi v37 c1_i32_11
  let v40 : BitVec 32 := Scalar.muli v39 c1_i32_11
  let v41 : BitVec 32 := Scalar.addi v31 v40
  let c1_i32_13 : BitVec 32 := 1#32
  let arg7 : BitVec 32 := Scf.iv v41 c1_i32_13 k0_t2
  let c128_i32_38 : BitVec 32 := 128#32
  let v119 : BitVec 32 := Scalar.muli arg7 c128_i32_38
  v119
@[reducible] def k0_t3_loop (i : grid0.Coords) : Scf.Loop 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_25 : BitVec 32 := 1#32
  let v83 : BitVec 32 := Scalar.addi arg1 c1_i32_25
  let v88 : BitVec 32 := Scalar.subi v83 v82
  let c1_i32_29 : BitVec 32 := 1#32
  let v90 : BitVec 32 := Scalar.divsi v88 c1_i32_29
  let v91 : BitVec 32 := Scalar.muli v90 c1_i32_29
  let v92 : BitVec 32 := Scalar.addi v82 v91
  let c1_i32_30 : BitVec 32 := 1#32
  ⟨v82, v92, c1_i32_30⟩
def k0_mult5 (i : grid0.Coords) (k0_t3 : Fin (k0_t3_loop i).trips) : BitVec 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_30 : BitVec 32 := 1#32
  let arg7 : BitVec 32 := Scf.iv v82 c1_i32_30 k0_t3
  let c128_i32_35 : BitVec 32 := 128#32
  let v113 : BitVec 32 := Scalar.muli arg7 c128_i32_35
  v113
def k0_off3 (i : grid0.Coords) (k0_t3 : Fin (k0_t3_loop i).trips) : Fin 3 → Nat :=
  let c0_36 : Index := 0#32
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_30 : BitVec 32 := 1#32
  let arg7 : BitVec 32 := Scf.iv v82 c1_i32_30 k0_t3
  let c128_i32_35 : BitVec 32 := 128#32
  let v113 : BitVec 32 := Scalar.muli arg7 c128_i32_35
  let v114 : BitVec 32 := v113
  let v115 : Index := Scalar.indexCast v114
  let c128 : Index := 128#32
  ![0, v115.toNat, 128]
def k0_mult6 (i : grid0.Coords) (k0_t3 : Fin (k0_t3_loop i).trips) : BitVec 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_30 : BitVec 32 := 1#32
  let arg7 : BitVec 32 := Scf.iv v82 c1_i32_30 k0_t3
  let c128_i32_37 : BitVec 32 := 128#32
  let v119 : BitVec 32 := Scalar.muli arg7 c128_i32_37
  v119
@[reducible] def k0_t4_loop (i : grid0.Coords) : Scf.Loop 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_25 : BitVec 32 := 1#32
  let v83 : BitVec 32 := Scalar.addi arg1 c1_i32_25
  let v88 : BitVec 32 := Scalar.subi v83 v82
  let c1_i32_29 : BitVec 32 := 1#32
  let v90 : BitVec 32 := Scalar.divsi v88 c1_i32_29
  let v91 : BitVec 32 := Scalar.muli v90 c1_i32_29
  let v92 : BitVec 32 := Scalar.addi v82 v91
  let v89 : BitVec 32 := Scalar.addi v82 v88
  let c1_i32_31 : BitVec 32 := 1#32
  ⟨v92, v89, c1_i32_31⟩
def k0_mult7 (i : grid0.Coords) (k0_t4 : Fin (k0_t4_loop i).trips) : BitVec 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_25 : BitVec 32 := 1#32
  let v83 : BitVec 32 := Scalar.addi arg1 c1_i32_25
  let v88 : BitVec 32 := Scalar.subi v83 v82
  let c1_i32_29 : BitVec 32 := 1#32
  let v90 : BitVec 32 := Scalar.divsi v88 c1_i32_29
  let v91 : BitVec 32 := Scalar.muli v90 c1_i32_29
  let v92 : BitVec 32 := Scalar.addi v82 v91
  let c1_i32_31 : BitVec 32 := 1#32
  let arg7 : BitVec 32 := Scf.iv v92 c1_i32_31 k0_t4
  let c128_i32_35 : BitVec 32 := 128#32
  let v113 : BitVec 32 := Scalar.muli arg7 c128_i32_35
  v113
def k0_off4 (i : grid0.Coords) (k0_t4 : Fin (k0_t4_loop i).trips) : Fin 3 → Nat :=
  let c0_36 : Index := 0#32
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_25 : BitVec 32 := 1#32
  let v83 : BitVec 32 := Scalar.addi arg1 c1_i32_25
  let v88 : BitVec 32 := Scalar.subi v83 v82
  let c1_i32_29 : BitVec 32 := 1#32
  let v90 : BitVec 32 := Scalar.divsi v88 c1_i32_29
  let v91 : BitVec 32 := Scalar.muli v90 c1_i32_29
  let v92 : BitVec 32 := Scalar.addi v82 v91
  let c1_i32_31 : BitVec 32 := 1#32
  let arg7 : BitVec 32 := Scf.iv v92 c1_i32_31 k0_t4
  let c128_i32_35 : BitVec 32 := 128#32
  let v113 : BitVec 32 := Scalar.muli arg7 c128_i32_35
  let v114 : BitVec 32 := v113
  let v115 : Index := Scalar.indexCast v114
  let c128 : Index := 128#32
  ![0, v115.toNat, 128]
def k0_mult8 (i : grid0.Coords) (k0_t4 : Fin (k0_t4_loop i).trips) : BitVec 32 :=
  let arg1 : BitVec 32 := BitVec.ofNat 32 (i 1).val
  let c1_i32_23 : BitVec 32 := 1#32
  let v81 : BitVec 32 := Scalar.subi arg1 c1_i32_23
  let c0_i32_24 : BitVec 32 := 0#32
  let v82 : BitVec 32 := Scalar.maxsi v81 c0_i32_24
  let c1_i32_25 : BitVec 32 := 1#32
  let v83 : BitVec 32 := Scalar.addi arg1 c1_i32_25
  let v88 : BitVec 32 := Scalar.subi v83 v82
  let c1_i32_29 : BitVec 32 := 1#32
  let v90 : BitVec 32 := Scalar.divsi v88 c1_i32_29
  let v91 : BitVec 32 := Scalar.muli v90 c1_i32_29
  let v92 : BitVec 32 := Scalar.addi v82 v91
  let c1_i32_31 : BitVec 32 := 1#32
  let arg7 : BitVec 32 := Scf.iv v92 c1_i32_31 k0_t4
  let c128_i32_37 : BitVec 32 := 128#32
  let v119 : BitVec 32 := Scalar.muli arg7 c128_i32_37
  v119
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c23_i32 : BitVec 32 := 23#32
  let c0_i32_0 : BitVec 32 := 0#32
  ![arg0.toNat, c0_i32.toNat, c23_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c24_i32 : BitVec 32 := 24#32
  let c0_i32_0 : BitVec 32 := 0#32
  ![arg0.toNat, c0_i32.toNat, c24_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x2048x6656 : Shape := ⟨3, ![4, 2048, 6656]⟩
abbrev S4 : Shape := ⟨1, ![4]⟩
abbrev S4x2048x512 : Shape := ⟨3, ![4, 2048, 512]⟩
abbrev S4x2048x4x128 : Shape := ⟨4, ![4, 2048, 4, 128]⟩
abbrev S4x2048x256 : Shape := ⟨3, ![4, 2048, 256]⟩
abbrev S4x2048x2x128 : Shape := ⟨4, ![4, 2048, 2, 128]⟩
abbrev S8 : Shape := ⟨1, ![8]⟩
abbrev S_ : Shape := ⟨0, ![]⟩
abbrev S4x16x128x2x128 : Shape := ⟨5, ![4, 16, 128, 2, 128]⟩
abbrev S4x17x128x2x128 : Shape := ⟨5, ![4, 17, 128, 2, 128]⟩
abbrev S4x16x256x2x128 : Shape := ⟨5, ![4, 16, 256, 2, 128]⟩
abbrev S4x16x128x2x2x128 : Shape := ⟨6, ![4, 16, 128, 2, 2, 128]⟩
abbrev S4x2x16x256x128x2 : Shape := ⟨6, ![4, 2, 16, 256, 128, 2]⟩
abbrev S4x2x2x16x128x256 : Shape := ⟨6, ![4, 2, 2, 16, 128, 256]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S2x2x1x1x1 : Shape := ⟨5, ![2, 2, 1, 1, 1]⟩
abbrev S1x1x16x128x256 : Shape := ⟨5, ![1, 1, 16, 128, 256]⟩
abbrev S2x2x16x128x256 : Shape := ⟨5, ![2, 2, 16, 128, 256]⟩
abbrev S1x2x2x16x128x256 : Shape := ⟨6, ![1, 2, 2, 16, 128, 256]⟩
abbrev S4x2x2x16x128x1 : Shape := ⟨6, ![4, 2, 2, 16, 128, 1]⟩
abbrev S4x2x2x16x128x257 : Shape := ⟨6, ![4, 2, 2, 16, 128, 257]⟩
abbrev S4x2x2x16x128 : Shape := ⟨5, ![4, 2, 2, 16, 128]⟩
abbrev S4x16x2x128x2x128 : Shape := ⟨6, ![4, 16, 2, 128, 2, 128]⟩

abbrev nBuf : Space → Nat
  | .hbm => 119
  | .vmem => 0
  | .smem => 0
  | _ => 0

abbrev bufTy : (tb : Table) → Fin (tcTables nBuf tb) → BufTy
  | .hbm, ⟨0, _⟩ => ⟨S4x2048x6656, .f32⟩
  | .hbm, ⟨1, _⟩ => ⟨S4, .f32⟩
  | .hbm, ⟨2, _⟩ => ⟨S4x2048x512, .f32⟩
  | .hbm, ⟨3, _⟩ => ⟨S4x2048x4x128, .f32⟩
  | .hbm, ⟨4, _⟩ => ⟨S4x2048x256, .f32⟩
  | .hbm, ⟨5, _⟩ => ⟨S4x2048x2x128, .f32⟩
  | .hbm, ⟨6, _⟩ => ⟨S4x2048x256, .f32⟩
  | .hbm, ⟨7, _⟩ => ⟨S4x2048x2x128, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4, .f32⟩
  | .hbm, ⟨22, _⟩ => ⟨S4x16x128x2x128, .f32⟩
  | .hbm, ⟨23, _⟩ => ⟨S_, .i32⟩
  | .hbm, ⟨24, _⟩ => ⟨S_, .f32⟩
  | .hbm, ⟨25, _⟩ => ⟨S4x17x128x2x128, .f32⟩
  | .hbm, ⟨26, _⟩ => ⟨S4x16x128x2x128, .f32⟩
  | .hbm, ⟨27, _⟩ => ⟨S4x16x128x2x128, .f32⟩
  | .hbm, ⟨28, _⟩ => ⟨S4x16x256x2x128, .f32⟩
  | .hbm, ⟨29, _⟩ => ⟨S4x16x128x2x128, .f32⟩
  | .hbm, ⟨30, _⟩ => ⟨S_, .i32⟩
  | .hbm, ⟨31, _⟩ => ⟨S_, .f32⟩
  | .hbm, ⟨32, _⟩ => ⟨S4x17x128x2x128, .f32⟩
  | .hbm, ⟨33, _⟩ => ⟨S4x16x128x2x128, .f32⟩
  | .hbm, ⟨34, _⟩ => ⟨S4x16x128x2x128, .f32⟩
  | .hbm, ⟨35, _⟩ => ⟨S4x16x256x2x128, .f32⟩
  | .hbm, ⟨36, _⟩ => ⟨S4x16x128x2x2x128, .f32⟩
  | .hbm, ⟨37, _⟩ => ⟨S4x2x16x256x128x2, .f32⟩
  | .hbm, ⟨38, _⟩ => ⟨S4x2x2x16x128x256, .f32⟩
  | .hbm, ⟨39, _⟩ => ⟨S_, .f32⟩
  | .hbm, ⟨40, _⟩ => ⟨S4x2x2x16x128x256, .f32⟩
  | .hbm, ⟨41, _⟩ => ⟨S4x2x2x16x128x256, .f32⟩
  | .hbm, ⟨42, _⟩ => ⟨S16, .i32⟩
  | .hbm, ⟨43, _⟩ => ⟨S16x1, .i32⟩
  | .hbm, ⟨44, _⟩ => ⟨S_, .i32⟩
  | .hbm, ⟨45, _⟩ => ⟨S16x1, .i32⟩
  | .hbm, ⟨46, _⟩ => ⟨S16x1, .i32⟩
  | .hbm, ⟨47, _⟩ => ⟨S128, .i32⟩
  | .hbm, ⟨48, _⟩ => ⟨S1x128, .i32⟩
  | .hbm, ⟨49, _⟩ => ⟨S16x128, .i32⟩
  | .hbm, ⟨50, _⟩ => ⟨S16x128, .i32⟩
  | .hbm, ⟨51, _⟩ => ⟨S16x128, .i32⟩
  | .hbm, ⟨52, _⟩ => ⟨S16, .i32⟩
  | .hbm, ⟨53, _⟩ => ⟨S16x1, .i32⟩
  | .hbm, ⟨54, _⟩ => ⟨S_, .i32⟩
  | .hbm, ⟨55, _⟩ => ⟨S16x1, .i32⟩
  | .hbm, ⟨56, _⟩ => ⟨S16x1, .i32⟩
  | .hbm, ⟨57, _⟩ => ⟨S_, .i32⟩
  | .hbm, ⟨58, _⟩ => ⟨S16x1, .i32⟩
  | .hbm, ⟨59, _⟩ => ⟨S16x1, .i32⟩
  | .hbm, ⟨60, _⟩ => ⟨S256, .i32⟩
  | .hbm, ⟨61, _⟩ => ⟨S1x256, .i32⟩
  | .hbm, ⟨62, _⟩ => ⟨S16x256, .i32⟩
  | .hbm, ⟨63, _⟩ => ⟨S16x256, .i32⟩
  | .hbm, ⟨64, _⟩ => ⟨S16x256, .i32⟩
  | .hbm, ⟨65, _⟩ => ⟨S16x128x1, .i32⟩
  | .hbm, ⟨66, _⟩ => ⟨S16x1x256, .i32⟩
  | .hbm, ⟨67, _⟩ => ⟨S16x128x256, .i32⟩
  | .hbm, ⟨68, _⟩ => ⟨S16x128x256, .i32⟩
  | .hbm, ⟨69, _⟩ => ⟨S16x128x256, .i32⟩
  | .hbm, ⟨70, _⟩ => ⟨S_, .i32⟩
  | .hbm, ⟨71, _⟩ => ⟨S16x128x256, .i32⟩
  | .hbm, ⟨72, _⟩ => ⟨S16x128x256, .i1⟩
  | .hbm, ⟨73, _⟩ => ⟨S_, .i32⟩
  | .hbm, ⟨74, _⟩ => ⟨S16x128x256, .i32⟩
  | .hbm, ⟨75, _⟩ => ⟨S16x128x256, .i1⟩
  | .hbm, ⟨76, _⟩ => ⟨S16x128x256, .i1⟩
  | .hbm, ⟨77, _⟩ => ⟨S16x1x256, .i32⟩
  | .hbm, ⟨78, _⟩ => ⟨S_, .i32⟩
  | .hbm, ⟨79, _⟩ => ⟨S16x1x256, .i32⟩
  | .hbm, ⟨80, _⟩ => ⟨S16x1x256, .i1⟩
  | .hbm, ⟨81, _⟩ => ⟨S16x128x256, .i1⟩
  | .hbm, ⟨82, _⟩ => ⟨S16x128x256, .i1⟩
  | .hbm, ⟨83, _⟩ => ⟨S2x2x1x1x1, .f32⟩
  | .hbm, ⟨84, _⟩ => ⟨S16x128x256, .f32⟩
  | .hbm, ⟨85, _⟩ => ⟨S1x1x16x128x256, .f32⟩
  | .hbm, ⟨86, _⟩ => ⟨S2x2x16x128x256, .f32⟩
  | .hbm, ⟨87, _⟩ => ⟨S2x2x16x128x256, .f32⟩
  | .hbm, ⟨88, _⟩ => ⟨S2x2x16x128x256, .f32⟩
  | .hbm, ⟨89, _⟩ => ⟨S1x2x2x16x128x256, .f32⟩
  | .hbm, ⟨90, _⟩ => ⟨S4x2x2x16x128x256, .f32⟩
  | .hbm, ⟨91, _⟩ => ⟨S4x2x2x16x128x256, .f32⟩
  | .hbm, ⟨92, _⟩ => ⟨S_, .f32⟩
  | .hbm, ⟨93, _⟩ => ⟨S_, .f32⟩
  | .hbm, ⟨94, _⟩ => ⟨S4x2x2x16x128x256, .i1⟩
  | .hbm, ⟨95, _⟩ => ⟨S4x2x2x16x128x256, .f32⟩
  | .hbm, ⟨96, _⟩ => ⟨S4x2x2x16x128x256, .f32⟩
  | .hbm, ⟨97, _⟩ => ⟨S2x2x1x1x1, .f32⟩
  | .hbm, ⟨98, _⟩ => ⟨S4x2x2x16x128x1, .f32⟩
  | .hbm, ⟨99, _⟩ => ⟨S4x2x2x16x128x257, .f32⟩
  | .hbm, ⟨100, _⟩ => ⟨S_, .f32⟩
  | .hbm, ⟨101, _⟩ => ⟨S4x2x2x16x128, .f32⟩
  | .hbm, ⟨102, _⟩ => ⟨S_, .f32⟩
  | .hbm, ⟨103, _⟩ => ⟨S4x2x2x16x128, .f32⟩
  | .hbm, ⟨104, _⟩ => ⟨S4x2x2x16x128, .f32⟩
  | .hbm, ⟨105, _⟩ => ⟨S4x2x2x16x128x1, .f32⟩
  | .hbm, ⟨106, _⟩ => ⟨S4x2x2x16x128x257, .f32⟩
  | .hbm, ⟨107, _⟩ => ⟨S4x2x2x16x128x257, .f32⟩
  | .hbm, ⟨108, _⟩ => ⟨S4x2x2x16x128x257, .f32⟩
  | .hbm, ⟨109, _⟩ => ⟨S_, .f32⟩
  | .hbm, ⟨110, _⟩ => ⟨S4x2x2x16x128, .f32⟩
  | .hbm, ⟨111, _⟩ => ⟨S4x2x2x16x128x1, .f32⟩
  | .hbm, ⟨112, _⟩ => ⟨S4x2x2x16x128x257, .f32⟩
  | .hbm, ⟨113, _⟩ => ⟨S4x2x2x16x128x257, .f32⟩
  | .hbm, ⟨114, _⟩ => ⟨S4x2x2x16x128x256, .f32⟩
  | .hbm, ⟨115, _⟩ => ⟨S4x16x2x128x2x128, .f32⟩
  | .hbm, ⟨116, _⟩ => ⟨S4x16x128x2x2x128, .f32⟩
  | .hbm, ⟨117, _⟩ => ⟨S4x2048x512, .f32⟩
  | .hbm, ⟨118, _⟩ => ⟨S4x2048x512, .bf16⟩
  | _, _ => ⟨S4x2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_call1_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_c_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_14 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]
-- ==== Kernel2.lean ====
abbrev S24576x2048 : Shape := ⟨2, ![24576, 2048]⟩
abbrev S24576x1 : Shape := ⟨2, ![24576, 1]⟩
abbrev S24 : Shape := ⟨1, ![24]⟩
abbrev S1 : Shape := ⟨1, ![1]⟩
abbrev S8x2048x7168 : Shape := ⟨3, ![8, 2048, 7168]⟩
abbrev S8x7168x2048 : Shape := ⟨3, ![8, 7168, 2048]⟩
abbrev S1024x2048 : Shape := ⟨2, ![1024, 2048]⟩
abbrev S1024x1 : Shape := ⟨2, ![1024, 1]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S1024x256 : Shape := ⟨2, ![1024, 256]⟩

abbrev nBuf : Space → Nat
  | .hbm => 6
  | .vmem => 12
  | .smem => 2
  | _ => 0

abbrev bufTy : (tb : Table) → Fin (tcTables nBuf tb) → BufTy
  | .hbm, ⟨0, _⟩ => ⟨S24576x2048, .bf16⟩
  | .hbm, ⟨1, _⟩ => ⟨S24576x1, .f32⟩
  | .hbm, ⟨2, _⟩ => ⟨S8x2048x7168, .f32⟩
  | .hbm, ⟨3, _⟩ => ⟨S8x2048x7168, .f32⟩
  | .hbm, ⟨4, _⟩ => ⟨S8x7168x2048, .f32⟩
  | .hbm, ⟨5, _⟩ => ⟨S24576x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1, .f32⟩
  | .local _ .vmem, ⟨3, _⟩ => ⟨S1024x1, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x256x2048, .f32⟩
  | .local _ .vmem, ⟨9, _⟩ => ⟨S1x256x2048, .f32⟩
  | .local _ .vmem, ⟨10, _⟩ => ⟨S1024x2048, .f32⟩
  | .local _ .vmem, ⟨11, _⟩ => ⟨S1024x2048, .f32⟩
  | .local _ .smem, ⟨0, _⟩ => ⟨S24, .i32⟩
  | .local _ .smem, ⟨1, _⟩ => ⟨S1, .i32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 28], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_1 : BitVec 32 := 0#32
  let v6 : BitVec 1 := Scalar.cmpi .ne v5 c0_i32_1
  v6

def k0_cond3 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c27_i32 : BitVec 32 := 27#32
  let v7 : BitVec 1 := Scalar.cmpi .eq arg1 c27_i32
  let v8 : BitVec 1 := Scalar.andi v1 v7
  let v9 : BitVec 32 := Scalar.extui v8
  let c0_i32_2 : BitVec 32 := 0#32
  let v10 : BitVec 1 := Scalar.cmpi .ne v9 c0_i32_2
  v10

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c27_i32 : BitVec 32 := 27#32
  let v4 : BitVec 32 := Scalar.select v3 arg1 c27_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S24576x2048 : Shape := ⟨2, ![24576, 2048]⟩
abbrev S24576x1 : Shape := ⟨2, ![24576, 1]⟩
abbrev S24 : Shape := ⟨1, ![24]⟩
abbrev S1 : Shape := ⟨1, ![1]⟩
abbrev S8x2048x7168 : Shape := ⟨3, ![8, 2048, 7168]⟩
abbrev S8x7168x2048 : Shape := ⟨3, ![8, 7168, 2048]⟩
abbrev S24x1024x2048 : Shape := ⟨3, ![24, 1024, 2048]⟩
abbrev S_ : Shape := ⟨0, ![]⟩
abbrev S24x1 : Shape := ⟨2, ![24, 1]⟩
abbrev S24x2048x7168 : Shape := ⟨3, ![24, 2048, 7168]⟩
abbrev S24x1024x7168 : Shape := ⟨3, ![24, 1024, 7168]⟩
abbrev S24x7168x2048 : Shape := ⟨3, ![24, 7168, 2048]⟩
abbrev S24x1x1 : Shape := ⟨3, ![24, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x1, .f32⟩
  | .hbm, ⟨2, _⟩ => ⟨S24, .i32⟩
  | .hbm, ⟨3, _⟩ => ⟨S1, .i32⟩
  | .hbm, ⟨4, _⟩ => ⟨S8x2048x7168, .f32⟩
  | .hbm, ⟨5, _⟩ => ⟨S8x2048x7168, .f32⟩
  | .hbm, ⟨6, _⟩ => ⟨S8x7168x2048, .f32⟩
  | .hbm, ⟨7, _⟩ => ⟨S24576x2048, .f32⟩
  | .hbm, ⟨8, _⟩ => ⟨S24x1024x2048, .f32⟩
  | .hbm, ⟨9, _⟩ => ⟨S_, .i32⟩
  | .hbm, ⟨10, _⟩ => ⟨S24, .i32⟩
  | .hbm, ⟨11, _⟩ => ⟨S24, .i1⟩
  | .hbm, ⟨12, _⟩ => ⟨S_, .i32⟩
  | .hbm, ⟨13, _⟩ => ⟨S24, .i32⟩
  | .hbm, ⟨14, _⟩ => ⟨S24, .i32⟩
  | .hbm, ⟨15, _⟩ => ⟨S24, .i32⟩
  | .hbm, ⟨16, _⟩ => ⟨S24x1, .i32⟩
  | .hbm, ⟨17, _⟩ => ⟨S24x2048x7168, .f32⟩
  | .hbm, ⟨18, _⟩ => ⟨S24x1024x7168, .f32⟩
  | .hbm, ⟨19, _⟩ => ⟨S_, .i32⟩
  | .hbm, ⟨20, _⟩ => ⟨S24, .i32⟩
  | .hbm, ⟨21, _⟩ => ⟨S24, .i1⟩
  | .hbm, ⟨22, _⟩ => ⟨S_, .i32⟩
  | .hbm, ⟨23, _⟩ => ⟨S24, .i32⟩
  | .hbm, ⟨24, _⟩ => ⟨S24, .i32⟩
  | .hbm, ⟨25, _⟩ => ⟨S24, .i32⟩
  | .hbm, ⟨26, _⟩ => ⟨S24x1, .i32⟩
  | .hbm, ⟨27, _⟩ => ⟨S24x2048x7168, .f32⟩
  | .hbm, ⟨28, _⟩ => ⟨S24x1024x7168, .f32⟩
  | .hbm, ⟨29, _⟩ => ⟨S24x1024x7168, .f32⟩
  | .hbm, ⟨30, _⟩ => ⟨S24x1024x7168, .f32⟩
  | .hbm, ⟨31, _⟩ => ⟨S_, .f32⟩
  | .hbm, ⟨32, _⟩ => ⟨S24x1024x7168, .f32⟩
  | .hbm, ⟨33, _⟩ => ⟨S24x1024x7168, .f32⟩
  | .hbm, ⟨34, _⟩ => ⟨S_, .f32⟩
  | .hbm, ⟨35, _⟩ => ⟨S24x1024x7168, .f32⟩
  | .hbm, ⟨36, _⟩ => ⟨S24x1024x7168, .f32⟩
  | .hbm, ⟨37, _⟩ => ⟨S24x1024x7168, .f32⟩
  | .hbm, ⟨38, _⟩ => ⟨S24x1024x7168, .f32⟩
  | .hbm, ⟨39, _⟩ => ⟨S_, .i32⟩
  | .hbm, ⟨40, _⟩ => ⟨S24, .i32⟩
  | .hbm, ⟨41, _⟩ => ⟨S24, .i1⟩
  | .hbm, ⟨42, _⟩ => ⟨S_, .i32⟩
  | .hbm, ⟨43, _⟩ => ⟨S24, .i32⟩
  | .hbm, ⟨44, _⟩ => ⟨S24, .i32⟩
  | .hbm, ⟨45, _⟩ => ⟨S24, .i32⟩
  | .hbm, ⟨46, _⟩ => ⟨S24x1, .i32⟩
  | .hbm, ⟨47, _⟩ => ⟨S24x7168x2048, .f32⟩
  | .hbm, ⟨48, _⟩ => ⟨S24x1024x2048, .f32⟩
  | .hbm, ⟨49, _⟩ => ⟨S24, .i32⟩
  | .hbm, ⟨50, _⟩ => ⟨S24x1x1, .i32⟩
  | .hbm, ⟨51, _⟩ => ⟨S_, .i32⟩
  | .hbm, ⟨52, _⟩ => ⟨S24x1x1, .i32⟩
  | .hbm, ⟨53, _⟩ => ⟨S24x1x1, .i1⟩
  | .hbm, ⟨54, _⟩ => ⟨S_, .f32⟩
  | .hbm, ⟨55, _⟩ => ⟨S_, .f32⟩
  | .hbm, ⟨56, _⟩ => ⟨S24x1024x2048, .i1⟩
  | .hbm, ⟨57, _⟩ => ⟨S24x1024x2048, .f32⟩
  | .hbm, ⟨58, _⟩ => ⟨S24x1024x2048, .f32⟩
  | .hbm, ⟨59, _⟩ => ⟨S24576x2048, .f32⟩
  | .hbm, ⟨60, _⟩ => ⟨S24576x2048, .f32⟩
  | .hbm, ⟨61, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x7168 : Shape := ⟨2, ![2048, 7168]⟩
abbrev S7168x2048 : Shape := ⟨2, ![7168, 2048]⟩
abbrev S1x2048 : Shape := ⟨2, ![1, 2048]⟩
abbrev S512x2048 : Shape := ⟨2, ![512, 2048]⟩
abbrev S2048x256 : Shape := ⟨2, ![2048, 256]⟩
abbrev S256x2048 : Shape := ⟨2, ![256, 2048]⟩
abbrev S512 : Shape := ⟨1, ![512]⟩
abbrev S512x1 : Shape := ⟨2, ![512, 1]⟩
abbrev S512x256 : Shape := ⟨2, ![512, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S2048x7168, .f32⟩
  | .hbm, ⟨4, _⟩ => ⟨S7168x2048, .f32⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S8192x2048 : Shape := ⟨2, ![8192, 2048]⟩
abbrev S2048 : Shape := ⟨1, ![2048]⟩
abbrev S2048x7168 : Shape := ⟨2, ![2048, 7168]⟩
abbrev S7168x2048 : Shape := ⟨2, ![7168, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x7168 : Shape := ⟨2, ![8192, 7168]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S2048x7168, .f32⟩
  | .hbm, ⟨4, _⟩ => ⟨S7168x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x7168, .f32⟩
  | .hbm, ⟨22, _⟩ => ⟨S8192x7168, .f32⟩
  | .hbm, ⟨23, _⟩ => ⟨S8192x7168, .f32⟩
  | .hbm, ⟨24, _⟩ => ⟨S_, .f32⟩
  | .hbm, ⟨25, _⟩ => ⟨S8192x7168, .f32⟩
  | .hbm, ⟨26, _⟩ => ⟨S8192x7168, .f32⟩
  | .hbm, ⟨27, _⟩ => ⟨S_, .f32⟩
  | .hbm, ⟨28, _⟩ => ⟨S8192x7168, .f32⟩
  | .hbm, ⟨29, _⟩ => ⟨S8192x7168, .f32⟩
  | .hbm, ⟨30, _⟩ => ⟨S8192x7168, .f32⟩
  | .hbm, ⟨31, _⟩ => ⟨S8192x7168, .f32⟩
  | .hbm, ⟨32, _⟩ => ⟨S8192x7168, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x6656 : Shape := ⟨2, ![2048, 6656]⟩
abbrev S1x2048 : Shape := ⟨2, ![1, 2048]⟩
abbrev S8192x6656 : Shape := ⟨2, ![8192, 6656]⟩
abbrev S512x2048 : Shape := ⟨2, ![512, 2048]⟩
abbrev S2048x1664 : Shape := ⟨2, ![2048, 1664]⟩
abbrev S512x1664 : Shape := ⟨2, ![512, 1664]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .bf16⟩
  | .hbm, ⟨3, _⟩ => ⟨S1x2048, .f32⟩
  | .hbm, ⟨4, _⟩ => ⟨S8192x6656, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S512x1664, .f32⟩
  | .local _ .vmem, ⟨6, _⟩ => ⟨S512x1664, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x2048 : Shape := ⟨2, ![8192, 2048]⟩
abbrev S2048 : Shape := ⟨1, ![2048]⟩
abbrev S2048x6656 : Shape := ⟨2, ![2048, 6656]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6656 : Shape := ⟨2, ![8192, 6656]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x6656, .bf16⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x6656, .f32⟩
  | .hbm, ⟨20, _⟩ => ⟨S8192x6656, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S8192x512 : Shape := ⟨2, ![8192, 512]⟩
abbrev S8192x1024 : Shape := ⟨2, ![8192, 1024]⟩
abbrev S8192x2048 : Shape := ⟨2, ![8192, 2048]⟩
abbrev S2048x2048 : Shape := ⟨2, ![2048, 2048]⟩
abbrev S512x512 : Shape := ⟨2, ![512, 512]⟩
abbrev S512x1024 : Shape := ⟨2, ![512, 1024]⟩
abbrev S512x2048 : Shape := ⟨2, ![512, 2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x2048, .f32⟩
  | .hbm, ⟨4, _⟩ => ⟨S2048x2048, .bf16⟩
  | .hbm, ⟨5, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x512 : Shape := ⟨2, ![8192, 512]⟩
abbrev S8192x1024 : Shape := ⟨2, ![8192, 1024]⟩
abbrev S8192x2048 : Shape := ⟨2, ![8192, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .bf16⟩
  | .hbm, ⟨3, _⟩ => ⟨S8192x2048, .f32⟩
  | .hbm, ⟨4, _⟩ => ⟨S2048x2048, .bf16⟩
  | .hbm, ⟨5, _⟩ => ⟨S8192x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.SwaSoftmax.lean ====
/- The running softmax over the extended reals: sums of weights that scale with the running maximum, and the quotient that no longer depends on it. -/
module

public import Idealize.ShloMosaic.PureOps.Ideal
public import Mathlib.Algebra.BigOperators.Fin

@[expose] public section

noncomputable section

open Idealize.ShloMosaic

namespace Cert.Swa

/-- A quantity kept relative to a running maximum: moving the maximum from `μ` to `μ'` multiplies it by `e^(μ - μ')`. -/
def Scales (Z : ℝ → EReal) : Prop := ∀ μ μ', Z μ' = ((Real.exp (μ - μ') : ℝ) : EReal) * Z μ

/-- The weight of a position: `e^(x - μ)` inside the window, zero outside. -/
def weight (c : BitVec 1) (x : EReal) (μ : ℝ) : EReal := if c = 1#1 then Ideal.exp (x - (μ : EReal)) else 0

/-- A nonnegative real factor distributes over any sum of two extended reals. -/
theorem mul_add_real (c : ℝ) (hc : 0 ≤ c) (a b : EReal) : (c : EReal) * (a + b) = (c : EReal) * a + (c : EReal) * b :=
  EReal.left_distrib_of_nonneg_of_ne_top (by exact_mod_cast hc) (EReal.coe_ne_top c) a b

/-- The same over a finite sum. -/
theorem mul_sum_real {ι : Type*} (s : Finset ι) (c : ℝ) (hc : 0 ≤ c) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, mul_add_real c hc, ih]

theorem Scales.zero : Scales fun _ => 0 := fun μ μ' => by simp

theorem Scales.add {Y Z : ℝ → EReal} (hY : Scales Y) (hZ : Scales Z) : Scales fun μ => Y μ + Z μ := fun μ μ' => by
  show Y μ' + Z μ' = _ * (Y μ + Z μ)
  rw [mul_add_real _ (Real.exp_pos _).le, ← hY μ μ', ← hZ μ μ']

theorem Scales.sum {ι : Type*} (s : Finset ι) {Z : ι → ℝ → EReal} (h : ∀ k, Scales (Z k)) : Scales fun μ => ∑ k ∈ s, Z k μ := fun μ μ' => by
  show ∑ k ∈ s, Z k μ' = _ * ∑ k ∈ s, Z k μ
  rw [mul_sum_real _ _ (Real.exp_pos _).le]
  exact Finset.sum_congr rfl fun k _ => h k μ μ'

theorem Scales.mul_right {Z : ℝ → EReal} (h : Scales Z) (v : EReal) : Scales fun μ => Z μ * v := fun μ μ' => by
  show Z μ' * v = _ * (Z μ * v)
  rw [h μ μ', mul_assoc]

/-- The exponential of a real distance. -/
theorem exp_sub_real (ξ μ : ℝ) : Ideal.exp ((ξ : EReal) - (μ : EReal)) = ((Real.exp (ξ - μ) : ℝ) : EReal) := by
  rw [← EReal.coe_sub]; rfl

theorem scales_exp (ξ : ℝ) : Scales fun μ : ℝ => Ideal.exp ((ξ : EReal) - (μ : EReal)) := fun μ μ' => by
  show Ideal.exp ((ξ : EReal) - (μ' : EReal)) = _ * Ideal.exp ((ξ : EReal) - (μ : EReal))
  rw [exp_sub_real, exp_sub_real, ← EReal.coe_mul, ← Real.exp_add]
  congr 2; ring

/-- A weight whose score is real wherever the window holds scales. -/
theorem scales_weight (c : BitVec 1) (x : EReal) (h : c = 1#1 → ∃ ξ : ℝ, x = ξ) : Scales (weight c x) := by
  by_cases hc : c = 1#1
  · obtain ⟨ξ, rfl⟩ := h hc
    have e : weight c (ξ : EReal) = fun μ : ℝ => Ideal.exp ((ξ : EReal) - (μ : EReal)) := funext fun μ => if_pos hc
    rw [e]; exact scales_exp ξ
  · have e : weight c x = fun _ => 0 := funext fun μ => if_neg hc
    rw [e]; exact Scales.zero

/-- Such a weight is a nonnegative real. -/
theorem weight_real (c : BitVec 1) (x : EReal) (h : c = 1#1 → ∃ ξ : ℝ, x = ξ) (μ : ℝ) : ∃ w : ℝ, 0 ≤ w ∧ weight c x μ = w := by
  by_cases hc : c = 1#1
  · obtain ⟨ξ, rfl⟩ := h hc
    exact ⟨Real.exp (ξ - μ), (Real.exp_pos _).le, (if_pos hc).trans (exp_sub_real ξ μ)⟩
  · exact ⟨0, le_rfl, (if_neg hc).trans EReal.coe_zero.symm⟩

/-- A finite sum of nonnegative reals is a nonnegative real. -/
theorem sum_real {ι : Type*} (s : Finset ι) (f : ι → EReal) (h : ∀ k, ∃ w : ℝ, 0 ≤ w ∧ f k = w) : ∃ w : ℝ, 0 ≤ w ∧ ∑ k ∈ s, f k = w := by
  choose g hg e using h
  refine ⟨∑ k ∈ s, g k, Finset.sum_nonneg fun k _ => hg k, ?_⟩
  rw [Finset.sum_congr rfl fun k _ => e k]
  classical
  induction s using Finset.induction_on with
  | empty => simp
  | insert a s ha ih => rw [Finset.sum_insert ha, Finset.sum_insert ha, ih, EReal.coe_add]

/-- A maximum folded from below over values short of `⊤` stays short of it. -/
theorem fold_ne_top {ι : Type*} (s : Finset ι) (b : EReal) (hb : b ≠ ⊤) (f : ι → EReal) (h : ∀ k, f k ≠ ⊤) : s.fold max b f ≠ ⊤ := by
  classical
  induction s using Finset.induction_on with
  | empty => simpa using hb
  | insert a s ha ih =>
    rw [Finset.fold_insert ha]
    intro e
    rcases max_choice (f a) (s.fold max b f) with q | q <;> rw [q] at e
    · exact h a e
    · exact ih e

/-- Every member is below the folded maximum. -/
theorem le_fold {ι : Type*} (s : Finset ι) (b : EReal) (f : ι → EReal) (k : ι) (hk : k ∈ s) : f k ≤ s.fold max b f :=
  (Finset.le_fold_max (c := f k)).2 (.inr ⟨k, hk, le_rfl⟩)

/-- A value between two reals' bounds is real. -/
theorem real_of_bounds (x : EReal) (μ : ℝ) (h : (μ : EReal) ≤ x) (ht : x ≠ ⊤) : ∃ ξ : ℝ, x = ξ := by
  have hb : x ≠ ⊥ := fun e => by rw [e] at h; exact absurd (le_bot_iff.1 h) (EReal.coe_ne_bot μ)
  exact ⟨x.toReal, (EReal.coe_toReal ht hb).symm⟩

/-- Dividing two quantities by the same positive factor changes nothing when the divisor is a positive real. -/
theorem div_scaled (x : EReal) (c d : ℝ) (hc : 0 < c) (hd : 0 < d) :
    Ideal.div ((c : EReal) * x) ((c : EReal) * (d : EReal)) = Ideal.div x (d : EReal) := by
  have hcd : (c : EReal) * (d : EReal) = ((c * d : ℝ) : EReal) := (EReal.coe_mul c d).symm
  have n1 : ((c * d : ℝ) : EReal) ≠ 0 := by exact_mod_cast (mul_pos hc hd).ne'
  have n2 : (d : EReal) ≠ 0 := by exact_mod_cast hd.ne'
  unfold Ideal.div
  rw [hcd, if_neg n1, if_neg n2, ← EReal.coe_inv, ← EReal.coe_inv, mul_comm (c : EReal) x, mul_assoc, ← EReal.coe_mul]
  congr 2
  field_simp

/-- THE QUOTIENT: the sum of weighted values over the sum of weights and the sink, at a running maximum `μ`. -/
def quotient (A L : ℝ → EReal) (σ μ : ℝ) : EReal := Ideal.div (A μ) (L μ + Ideal.exp ((σ : EReal) - (μ : EReal)))

/-- It does not depend on the maximum. -/
theorem quotient_const {A L : ℝ → EReal} (hA : Scales A) (hL : Scales L) (hr : ∀ μ, ∃ w : ℝ, 0 ≤ w ∧ L μ = w) (σ μ μ' : ℝ) :
    quotient A L σ μ' = quotient A L σ μ := by
  have hD := hL.add (scales_exp σ)
  have e : L μ' + Ideal.exp ((σ : EReal) - (μ' : EReal)) = _ := hD μ μ'
  obtain ⟨w, hw, ew⟩ := hr μ
  have ed : L μ + Ideal.exp ((σ : EReal) - (μ : EReal)) = ((w + Real.exp (σ - μ) : ℝ) : EReal) := by
    rw [ew, exp_sub_real, EReal.coe_add]
  unfold quotient
  rw [e, hA μ μ']
  show Ideal.div (_ * A μ) (_ * (L μ + Ideal.exp ((σ : EReal) - (μ : EReal)))) = _
  rw [ed]
  exact div_scaled _ _ _ (Real.exp_pos _) (by have := Real.exp_pos (σ - μ); linarith)

/-- What the kernel leaves: the running sums brought to the maximum with the sink, then divided. -/
theorem quotient_final {A L : ℝ → EReal} (hA : Scales A) (hL : Scales L) (hr : ∀ μ, ∃ w : ℝ, 0 ≤ w ∧ L μ = w) (σ μ ρ : ℝ) :
    Ideal.div (A μ * Ideal.exp ((μ : EReal) - max (μ : EReal) (σ : EReal)))
        (L μ * Ideal.exp ((μ : EReal) - max (μ : EReal) (σ : EReal)) + Ideal.exp ((σ : EReal) - max (μ : EReal) (σ : EReal)))
      = quotient A L σ ρ := by
  have hm : max (μ : EReal) (σ : EReal) = ((max μ σ : ℝ) : EReal) := (EReal.coe_strictMono.monotone.map_max).symm
  rw [hm, exp_sub_real, mul_comm (A μ), mul_comm (L μ), ← hA, ← hL]
  exact quotient_const hA hL hr σ ρ _

/-- A row's running state, a maximum `m`, a sum `l` and a row `a`: the sums `L` and `A` at a real maximum. -/
def Running {κ : Type*} (A : κ → ℝ → EReal) (L : ℝ → EReal) (m l : EReal) (a : κ → EReal) : Prop :=
  ∃ μ : ℝ, m = μ ∧ l = L μ ∧ ∀ d, a d = A d μ

/-- One more tile of positions: the state is brought to the new maximum and the tile's weights are added. -/
theorem Running.step {κ ι : Type*} [Fintype ι] {A : κ → ℝ → EReal} {L : ℝ → EReal} {m l : EReal} {a : κ → EReal}
    (h : Running A L m l a) (hA : ∀ d, Scales (A d)) (hL : Scales L) (c : ι → BitVec 1) (x : ι → EReal) (v : ι → κ → EReal)
    (b : EReal) (hb : b ≠ ⊤) (hx : ∀ j, x j ≠ ⊤) :
    Running (fun d μ => A d μ + ∑ j, weight (c j) (x j) μ * v j d) (fun μ => L μ + ∑ j, weight (c j) (x j) μ)
      (max m (Finset.univ.fold max b x))
      (Ideal.exp (m - max m (Finset.univ.fold max b x)) * l
        + ∑ j, (if c j = 1#1 then Ideal.exp (x j - max m (Finset.univ.fold max b x)) else 0))
      (fun d => Ideal.exp (m - max m (Finset.univ.fold max b x)) * a d
        + ∑ j, (if c j = 1#1 then Ideal.exp (x j - max m (Finset.univ.fold max b x)) else 0) * v j d) := by
  obtain ⟨μ, rfl, rfl, ha⟩ := h
  have ht : max (μ : EReal) (Finset.univ.fold max b x) ≠ ⊤ := by
    intro e
    rcases max_choice (μ : EReal) (Finset.univ.fold max b x) with q | q <;> rw [q] at e
    · exact EReal.coe_ne_top μ e
    · exact fold_ne_top _ b hb x hx e
  obtain ⟨μ', e⟩ := real_of_bounds _ μ (le_max_left _ _) ht
  refine ⟨μ', e, ?_, fun d => ?_⟩
  · rw [e, exp_sub_real, ← hL μ μ']; rfl
  · beta_reduce
    rw [e, exp_sub_real, ha d, ← hA d μ μ']; rfl

/-- What the reference leaves: every weight divided by the same sum, times its value. -/
theorem sum_div {ι : Type*} [Fintype ι] (w v : ι → EReal) (hw : ∀ k, ∃ r : ℝ, 0 ≤ r ∧ w k = r) (d : ℝ) (hd : 0 < d) :
    ∑ k, v k * Ideal.div (w k) (d : EReal) = Ideal.div (∑ k, w k * v k) (d : EReal) := by
  have n2 : (d : EReal) ≠ 0 := by exact_mod_cast hd.ne'
  unfold Ideal.div
  simp only [if_neg n2]
  rw [← EReal.coe_inv, mul_comm (∑ k, w k * v k), mul_sum_real _ _ (inv_pos.2 hd).le]
  refine Finset.sum_congr rfl fun k _ => ?_
  rw [mul_comm (v k), mul_comm (w k), mul_assoc]

/-! ## The float words the programs write -/

/-- A word whose exponent is not all ones is a real. -/
theorem real_bits (b : BitVec 32) (h : (b.extractLsb' 23 8).toNat ≠ 2 ^ 8 - 1) : ∃ ξ : ℝ, (Ideal.ofBits .f32 b : EReal) = ξ := by
  show ∃ ξ : ℝ, Ideal.ieee 8 23 b = ξ
  unfold Ideal.ieee
  dsimp only
  rw [if_neg h]
  split
  · exact ⟨_, rfl⟩
  · exact ⟨_, rfl⟩

/-- A normal word's value, from its sign, exponent and fraction. -/
theorem normal_bits (b : BitVec 32) (g : Bool) (ex fr : Nat) (hg : (b.extractLsb' 31 1 == 1#1) = g) (he : (b.extractLsb' 23 8).toNat = ex)
    (hf : (b.extractLsb' 0 23).toNat = fr) (h0 : ex ≠ 0) (h1 : ex ≠ 2 ^ 8 - 1) :
    (Ideal.ofBits .f32 b : EReal) = (((if g then -1 else 1) * (2 ^ 23 + fr : Nat) * (2 : ℝ) ^ ((ex : Int) - 127 - 23) : ℝ) : EReal) := by
  subst hg he hf
  show Ideal.ieee 8 23 b = _
  unfold Ideal.ieee
  dsimp only
  rw [if_neg h1, if_neg h0]
  norm_num

/-- The word of minus infinity is the least extended real. -/
theorem bits_bot : (Ideal.ofBits .f32 0xFF800000#32 : EReal) = ⊥ := by
  simp [Ideal.ofBits, Ideal.ieee]

theorem bits_zero : (Ideal.ofBits .f32 0x00000000#32 : EReal) = 0 := by
  simp [Ideal.ofBits, Ideal.ieee]

theorem bits_half : (Ideal.ofBits .f32 0x3F000000#32 : EReal) = ((1 / 2 : ℝ) : EReal) := by
  rw [normal_bits _ false 126 0 (by decide) (by decide) (by decide) (by decide) (by decide)]; norm_num
theorem bits_quarter : (Ideal.ofBits .f32 0x3E800000#32 : EReal) = ((1 / 4 : ℝ) : EReal) := by
  rw [normal_bits _ false 125 0 (by decide) (by decide) (by decide) (by decide) (by decide)]; norm_num
theorem bits_eighth : (Ideal.ofBits .f32 0x3E000000#32 : EReal) = ((1 / 8 : ℝ) : EReal) := by
  rw [normal_bits _ false 124 0 (by decide) (by decide) (by decide) (by decide) (by decide)]; norm_num
theorem bits_sixteenth : (Ideal.ofBits .f32 0x3D800000#32 : EReal) = ((1 / 16 : ℝ) : EReal) := by
  rw [normal_bits _ false 123 0 (by decide) (by decide) (by decide) (by decide) (by decide)]; norm_num
theorem bits_one : (Ideal.ofBits .f32 0x3F800000#32 : EReal) = ((1 : ℝ) : EReal) := by
  rw [normal_bits _ false 127 0 (by decide) (by decide) (by decide) (by decide) (by decide)]; norm_num
theorem bits_two : (Ideal.ofBits .f32 0x40000000#32 : EReal) = ((2 : ℝ) : EReal) := by
  rw [normal_bits _ false 128 0 (by decide) (by decide) (by decide) (by decide) (by decide)]; norm_num
theorem bits_eight : (Ideal.ofBits .f32 0x41000000#32 : EReal) = ((8 : ℝ) : EReal) := by
  rw [normal_bits _ false 130 0 (by decide) (by decide) (by decide) (by decide) (by decide)]; norm_num
theorem bits_neg_eight : (Ideal.ofBits .f32 0xC1000000#32 : EReal) = ((-8 : ℝ) : EReal) := by
  rw [normal_bits _ true 130 0 (by decide) (by decide) (by decide) (by decide) (by decide)]; norm_num

end Cert.Swa

end
-- ==== Proof.SwaStep.lean ====
/- One trip of the attention kernel's loop over key tiles, for either pair of heads: the trip's value as plain array operations, and its rows. -/
module

public import proofs.«01_k».proof.Proof.Gen.KernelIdeal.Frame
public import proofs.«01_k».proof.Proof.SwaSoftmax
public import Idealize.ShloMosaic.Lib.Pipeline.ValueKit
public import Idealize.ShloMosaic.Lib.Pointwise
public import Idealize.ShloMosaic.PureOps.Ideal.Laws
public import Idealize.ShloMosaic.Lib.WholeRead

@[expose] public section

set_option maxRecDepth 16384

noncomputable section

open Idealize.ShloMosaic Idealize.ShloMosaic.TcCoe Idealize.SL.Sem

namespace Cert.Swa

open Cert.KernelIdeal Cert.KernelIdeal.Gen Cert.KernelIdeal.Facts

/-- Query position minus key position, for the key tile numbered `w`. -/
def dist (w : BitVec 32) (q : IVec S256x1 32) (j : IVec S256x128 32) : IVec S256x128 32 :=
  subi (broadcastTo S256x128 q broadcasts_S256x1_S256x128) (addi (broadcast S256x128 (Scalar.muli w 128#32)) j)

/-- The causal window: the distance is at least zero and below 128. -/
def within (D : IVec S256x128 32) : IVec S256x128 1 :=
  andi (cmpi .sge D (broadcast S256x128 0#32)) (cmpi .slt D (broadcast S256x128 128#32))

/-- The scores of a tile: scaled products less the slope times the distance, a constant outside the window. -/
def scores (D : IVec S256x128 32) (q : FVec Ideal S256x128 .bf16) (s : FVec Ideal S256x1 .f32) (K : Vec Ideal S1x128x128 .f32) : FVec Ideal S256x128 .f32 :=
  select (within D)
    (subf (mulf (matmul dot_S256x128_S128x128_S256x128_1_1_0_0_n_n none q (truncf .bf16 (shapeCast S128x128 K shapeCasts_S1x128x128_S128x128) bitsLt_bf16_f32) (constant S256x128 .f32 0x00000000#32))
        (broadcast S256x128 (Scalar.ofBits .f32 0x3DB504F3#32)))
      (mulf (broadcastTo S256x128 s broadcasts_S256x1_S256x128) (sitofp .f32 D)))
    (broadcast S256x128 (Scalar.ofBits .f32 0xF149F2CA#32))

/-- The new running maximum. -/
def newMax (X : FVec Ideal S256x128 .f32) (m : FVec Ideal S256x1 .f32) : FVec Ideal S256x1 .f32 :=
  maximumf m (shapeCast S256x1 (multiReduction .maximumf [1] S256 X 0xFF800000#32 reduces_S256x128_S256 (.inl rfl) rfl) shapeCasts_S256_S256x1)

/-- The tile's weights relative to a maximum. -/
def tileWeights (C : IVec S256x128 1) (X : FVec Ideal S256x128 .f32) (m : FVec Ideal S256x1 .f32) : FVec Ideal S256x128 .f32 :=
  select C (exp (subf X (broadcastTo S256x128 m broadcasts_S256x1_S256x128))) (broadcast S256x128 (Scalar.ofBits .f32 0x00000000#32))

/-- The new running sum. -/
def newSum (W : FVec Ideal S256x128 .f32) (α l : FVec Ideal S256x1 .f32) : FVec Ideal S256x1 .f32 :=
  addf (mulf α l) (shapeCast S256x1 (multiReduction .add [1] S256 W 0x00000000#32 reduces_S256x128_S256 (.inl rfl) rfl) shapeCasts_S256_S256x1)

/-- The new running weighted values. -/
def newAcc (W : FVec Ideal S256x128 .f32) (α : FVec Ideal S256x1 .f32) (a : FVec Ideal S256x128 .f32) (V : Vec Ideal S1x128x128 .f32) : FVec Ideal S256x128 .f32 :=
  addf (mulf (broadcastTo S256x128 α broadcasts_S256x1_S256x128) a)
    (matmul dot_S256x128_S128x128_S256x128_1_0_0_1_n_n none (truncf .bf16 W bitsLt_bf16_f32) (truncf .bf16 (shapeCast S128x128 V shapeCasts_S1x128x128_S128x128) bitsLt_bf16_f32) (constant S256x128 .f32 0x00000000#32))

/-- One trip's value. -/
def tile (D : IVec S256x128 32) (q : FVec Ideal S256x128 .bf16) (s : FVec Ideal S256x1 .f32) (K V : Vec Ideal S1x128x128 .f32)
    (z : FVec Ideal S256x1 .f32 × FVec Ideal S256x1 .f32 × FVec Ideal S256x128 .f32) : FVec Ideal S256x1 .f32 × FVec Ideal S256x1 .f32 × FVec Ideal S256x128 .f32 :=
  (newMax (scores D q s K) z.1,
    newSum (tileWeights (within D) (scores D q s K) (newMax (scores D q s K) z.1)) (exp (subf z.1 (newMax (scores D q s K) z.1))) z.2.1,
    newAcc (tileWeights (within D) (scores D q s K) (newMax (scores D q s K) z.1)) (exp (subf z.1 (newMax (scores D q s K) z.1))) z.2.2 V)

section Trips

variable (𝒱 : Variants) (c : Dev nD) (bd : Option 𝒱.V) (i : grid0.Coords)
  (arg2 : Memref sig .tc .smem S4 .f32) (harg2 : arg2.IsWhole) (arg3 : Memref sig .tc .vmem S1x128x512 .f32) (harg3 : arg3.IsWhole)
  (arg4 : Memref sig .tc .vmem S1x2048x256 .f32) (harg4 : arg4.IsWhole) (arg5 : Memref sig .tc .vmem S1x2048x256 .f32) (harg5 : arg5.IsWhole)
  (arg6 : Memref sig .tc .vmem S1x128x512 .bf16) (harg6 : arg6.IsWhole)

/-- A trip for the second pair of heads. -/
theorem trip3_eq (v5 : IVec S256x1 32) (v62 : FVec Ideal S256x128 .bf16) (v70 : FVec Ideal S256x1 .f32) (v82 : BitVec 32) (v84 : IVec S256x128 32)
    (X4 : BufTy.Contents (Elt Ideal) arg4.view.ty) (X5 : BufTy.Contents (Elt Ideal) arg5.view.ty) (k : Fin (k0_t3_loop i).trips)
    (z : FVec Ideal S256x1 .f32 × FVec Ideal S256x1 .f32 × FVec Ideal S256x128 .f32) :
    tripR_k0_t3 (F := Ideal) 𝒱 c bd i arg2 harg2 arg3 harg3 arg4 harg4 arg5 harg5 arg6 harg6 v5 v62 v70 v82 v84 X4 X5 k z
      = tile (dist (Scf.iv v82 1#32 k) v5 v84) v62 v70
          (View.readAt (Elt Ideal) arg4.view (Rect.unit (s := S1x2048x256) (k0_off3 i k) S1x128x128.size (k0_off3_inb i k)).toLoadRect X4)
          (View.readAt (Elt Ideal) arg5.view (Rect.unit (s := S1x2048x256) (k0_off3 i k) S1x128x128.size (k0_off3_inb i k)).toLoadRect X5) z := by
  unfold tripR_k0_t3 trip_k0_t3
  rfl

/-- A trip for the first pair of heads. -/
theorem trip1_eq (arg1 : BitVec 32) (v5 : IVec S256x1 32) (v11 : FVec Ideal S256x128 .bf16) (v19 v29 : FVec Ideal S256x1 .f32) (v31 : BitVec 32) (v33 : IVec S256x128 32)
    (v34 v35 : FVec Ideal S256x1 .f32) (v36 : FVec Ideal S256x128 .f32) (v37 : BitVec 32)
    (X4 : BufTy.Contents (Elt Ideal) arg4.view.ty) (X5 : BufTy.Contents (Elt Ideal) arg5.view.ty) (k : Fin (k0_t1_loop i).trips)
    (z : FVec Ideal S256x1 .f32 × FVec Ideal S256x1 .f32 × FVec Ideal S256x128 .f32) :
    tripR_k0_t1 (F := Ideal) 𝒱 c bd i arg2 harg2 arg3 harg3 arg4 harg4 arg5 harg5 arg6 harg6 arg1 v5 v11 v19 v29 v31 v33 v34 v35 v36 v37 X4 X5 k z
      = tile (dist (Scf.iv v31 1#32 k) v5 v33) v11 v19
          (View.readAt (Elt Ideal) arg4.view (Rect.unit (s := S1x2048x256) (k0_off1 i k) S1x128x128.size (k0_off1_inb i k)).toLoadRect X4)
          (View.readAt (Elt Ideal) arg5.view (Rect.unit (s := S1x2048x256) (k0_off1 i k) S1x128x128.size (k0_off1_inb i k)).toLoadRect X5) z := by
  unfold tripR_k0_t1 trip_k0_t1
  rfl

end Trips

/-! ## The rows of a trip -/

theorem newMax_apply (X : FVec Ideal S256x128 .f32) (m : FVec Ideal S256x1 .f32) (r : Fin 256) :
    newMax X m (ix2 r 0) = max (m (ix2 r 0)) (Finset.univ.fold max (Ideal.ofBits .f32 0xFF800000#32 : EReal) fun j : Fin 128 => X (ix2 r j)) := by
  unfold newMax
  show max (m (ix2 r 0)) (shapeCast S256x1 _ shapeCasts_S256_S256x1 (ix2 r 0)) = _
  rw [shapeCast_apply _ shapeCasts_S256_S256x1 (ix2 r 0) (ix1 r) (by rfl)]
  refine congrArg (max _) ((Ideal.multiReduction_maximumf_single _ _ _ _ _ _).trans ?_)
  exact Finset.fold_congr fun j _ => congrArg X (funext fun a => Fin.ext (match a with | ⟨0, _⟩ => rfl | ⟨1, _⟩ => rfl))

theorem tileWeights_apply (C : IVec S256x128 1) (X : FVec Ideal S256x128 .f32) (m : FVec Ideal S256x1 .f32) (r : Fin 256) (j : Fin 128) :
    tileWeights C X m (ix2 r j) = (if C (ix2 r j) = 1#1 then Ideal.exp (X (ix2 r j) - m (ix2 r 0)) else 0 : EReal) := by
  unfold tileWeights
  pointwise
  rfl

theorem newSum_apply (W : FVec Ideal S256x128 .f32) (α l : FVec Ideal S256x1 .f32) (r : Fin 256) :
    newSum W α l (ix2 r 0) = (α (ix2 r 0) * l (ix2 r 0) + ∑ j : Fin 128, W (ix2 r j) : EReal) := by
  unfold newSum
  show (α (ix2 r 0) * l (ix2 r 0) + shapeCast S256x1 _ shapeCasts_S256_S256x1 (ix2 r 0) : EReal) = _
  rw [shapeCast_apply _ shapeCasts_S256_S256x1 (ix2 r 0) (ix1 r) (by rfl)]
  refine congrArg (_ + ·) ((Ideal.multiReduction_add_single _ _ _ _ _ _).trans ?_)
  exact Finset.sum_congr rfl fun j _ => congrArg W (funext fun a => Fin.ext (match a with | ⟨0, _⟩ => rfl | ⟨1, _⟩ => rfl))

theorem newAcc_apply (W : FVec Ideal S256x128 .f32) (α : FVec Ideal S256x1 .f32) (a : FVec Ideal S256x128 .f32) (V : Vec Ideal S1x128x128 .f32) (r : Fin 256) (d : Fin 128) :
    newAcc W α a V (ix2 r d) = (α (ix2 r 0) * a (ix2 r d) + ∑ j : Fin 128, W (ix2 r j) * V (ix3 0 j d) : EReal) := by
  unfold newAcc
  pointwise

/-- The score of a row's position: the scaled product less the slope times the distance. -/
def raw (D : IVec S256x128 32) (q : FVec Ideal S256x128 .bf16) (s : FVec Ideal S256x1 .f32) (K : Vec Ideal S1x128x128 .f32) (r : Fin 256) (j : Fin 128) : EReal :=
  (∑ d : Fin 128, q (ix2 r d) * K (ix3 0 j d)) * Ideal.ofBits .f32 0x3DB504F3#32 - s (ix2 r 0) * FloatOps.sitofp (F := Ideal) .f32 (D (ix2 r j))

theorem scores_apply (D : IVec S256x128 32) (q : FVec Ideal S256x128 .bf16) (s : FVec Ideal S256x1 .f32) (K : Vec Ideal S1x128x128 .f32) (r : Fin 256) (j : Fin 128) :
    scores D q s K (ix2 r j) = (if within D (ix2 r j) = 1#1 then raw D q s K r j else Ideal.ofBits .f32 0xF149F2CA#32 : EReal) := by
  unfold scores
  pointwise
  rfl

theorem dist_apply (w : BitVec 32) (q : IVec S256x1 32) (j : IVec S256x128 32) (r : Fin 256) (k : Fin 128) :
    dist w q j (ix2 r k) = q (ix2 r 0) - (w * 128#32 + j (ix2 r k)) := by
  unfold dist
  pointwise
  rfl

theorem within_apply (D : IVec S256x128 32) (r : Fin 256) (k : Fin 128) :
    within D (ix2 r k) = IntOp.andi (IntOp.cmpi .sge (D (ix2 r k)) 0#32) (IntOp.cmpi .slt (D (ix2 r k)) 128#32) := by
  unfold within
  pointwise

/-- A weight reads its score inside the window only. -/
theorem weight_ite (c : BitVec 1) (x y : EReal) : weight c (if c = 1#1 then x else y) = weight c x := by
  funext μ
  unfold weight
  by_cases h : c = 1#1 <;> simp only [h, if_true, if_false]

/-- A TRIP ON A ROW: a running state goes to the running state with the tile's weights added. -/
theorem tile_row (D : IVec S256x128 32) (q : FVec Ideal S256x128 .bf16) (s : FVec Ideal S256x1 .f32) (K V : Vec Ideal S1x128x128 .f32)
    (z : FVec Ideal S256x1 .f32 × FVec Ideal S256x1 .f32 × FVec Ideal S256x128 .f32) (r : Fin 256)
    {A : Fin 128 → ℝ → EReal} {L : ℝ → EReal} (h : Running A L (z.1 (ix2 r 0)) (z.2.1 (ix2 r 0)) fun d : Fin 128 => z.2.2 (ix2 r d))
    (hA : ∀ d, Scales (A d)) (hL : Scales L) (hr : ∀ j : Fin 128, within D (ix2 r j) = 1#1 → ∃ ξ : ℝ, raw D q s K r j = ξ) :
    Running (fun d μ => A d μ + ∑ j : Fin 128, weight (within D (ix2 r j)) (raw D q s K r j) μ * V (ix3 0 j d))
      (fun μ => L μ + ∑ j : Fin 128, weight (within D (ix2 r j)) (raw D q s K r j) μ)
      ((tile D q s K V z).1 (ix2 r 0)) ((tile D q s K V z).2.1 (ix2 r 0)) fun d : Fin 128 => (tile D q s K V z).2.2 (ix2 r d) := by
  have hx : ∀ j : Fin 128, scores D q s K (ix2 r j) ≠ (⊤ : EReal) := fun j => by
    rw [scores_apply]
    split
    · rename_i hc
      obtain ⟨ξ, e⟩ := hr j hc
      rw [e]; exact EReal.coe_ne_top ξ
    · obtain ⟨ξ, e⟩ := real_bits 0xF149F2CA#32 (by decide)
      rw [e]; exact EReal.coe_ne_top ξ
  have hb : (Ideal.ofBits .f32 0xFF800000#32 : EReal) ≠ ⊤ := by rw [bits_bot]; exact bot_ne_top
  have key := h.step hA hL (fun j : Fin 128 => within D (ix2 r j)) (fun j => scores D q s K (ix2 r j)) (fun j d => V (ix3 0 j d)) _ hb hx
  have e1 : ∀ j : Fin 128, weight (within D (ix2 r j)) (scores D q s K (ix2 r j)) = weight (within D (ix2 r j)) (raw D q s K r j) := fun j => by
    rw [scores_apply]; exact weight_ite _ _ _
  simp only [e1] at key
  unfold tile
  dsimp only
  rw [newSum_apply, newMax_apply]
  simp only [newAcc_apply, tileWeights_apply]
  have e2 : (exp (subf z.1 (newMax (scores D q s K) z.1)) : FVec Ideal S256x1 .f32) (ix2 r 0) = Ideal.exp (z.1 (ix2 r 0) - newMax (scores D q s K) z.1 (ix2 r 0)) := rfl
  rw [e2, newMax_apply]
  exact key

end Cert.Swa

end
-- ==== Proof.SwaLoop.lean ====
/- The attention kernel's loops: how many trips each makes at a grid point, where a trip reads, and the state a loop leaves. -/
module

public import proofs.«01_k».proof.Proof.SwaStep

@[expose] public section

set_option maxRecDepth 16384

noncomputable section

open Idealize.ShloMosaic Idealize.ShloMosaic.TcCoe Idealize.SL.Sem

namespace Cert.Swa

open Cert.KernelIdeal Cert.KernelIdeal.Gen Cert.KernelIdeal.Facts

theorem trips1 (i : grid0.Coords) : (k0_t1_loop i).trips = if (i 1).val = 0 then 1 else 2 := by
  unfold k0_t1_loop Scf.Loop.trips
  dsimp only
  generalize i 1 = n
  revert n
  change ∀ n : Fin 16, _
  decide +kernel

theorem trips3 (i : grid0.Coords) : (k0_t3_loop i).trips = if (i 1).val = 0 then 1 else 2 := by
  unfold k0_t3_loop Scf.Loop.trips
  dsimp only
  generalize i 1 = n
  revert n
  change ∀ n : Fin 16, _
  decide +kernel

theorem trips2 (i : grid0.Coords) : (k0_t2_loop i).trips = 0 := by
  unfold k0_t2_loop Scf.Loop.trips
  dsimp only
  generalize i 1 = n
  revert n
  change ∀ n : Fin 16, _
  decide +kernel

theorem trips4 (i : grid0.Coords) : (k0_t4_loop i).trips = 0 := by
  unfold k0_t4_loop Scf.Loop.trips
  dsimp only
  generalize i 1 = n
  revert n
  change ∀ n : Fin 16, _
  decide +kernel

theorem off1_0 (i : grid0.Coords) (h) : k0_off1 i ⟨0, h⟩ = ![0, ((i 1).val - 1) * 128, 0] := by
  unfold k0_off1
  dsimp only
  clear h
  generalize i 1 = n
  revert n
  change ∀ n : Fin 16, _
  decide +kernel

theorem off1_1 (i : grid0.Coords) (h) (hi : (i 1).val ≠ 0) : k0_off1 i ⟨1, h⟩ = ![0, (i 1).val * 128, 0] := by
  unfold k0_off1
  dsimp only
  clear h
  generalize i 1 = n at *
  revert n
  change ∀ n : Fin 16, _
  decide +kernel

theorem off3_0 (i : grid0.Coords) (h) : k0_off3 i ⟨0, h⟩ = ![0, ((i 1).val - 1) * 128, 128] := by
  unfold k0_off3
  dsimp only
  clear h
  generalize i 1 = n
  revert n
  change ∀ n : Fin 16, _
  decide +kernel

theorem off3_1 (i : grid0.Coords) (h) (hi : (i 1).val ≠ 0) : k0_off3 i ⟨1, h⟩ = ![0, (i 1).val * 128, 128] := by
  unfold k0_off3
  dsimp only
  clear h
  generalize i 1 = n at *
  revert n
  change ∀ n : Fin 16, _
  decide +kernel

/-- The number of the first key tile a grid point reads, as the kernel computes it. -/
abbrev firstTile (i : grid0.Coords) : BitVec 32 := Scalar.maxsi (Scalar.subi (BitVec.ofNat 32 (i 1).val) 1#32) 0#32

theorem iv_0 (i : grid0.Coords) : Scf.iv (firstTile i) 1#32 0 = BitVec.ofNat 32 ((i 1).val - 1) := by
  unfold firstTile
  generalize i 1 = n
  revert n
  change ∀ n : Fin 16, _
  decide +kernel

theorem iv_1 (i : grid0.Coords) (hi : (i 1).val ≠ 0) : Scf.iv (firstTile i) 1#32 1 = BitVec.ofNat 32 (i 1).val := by
  unfold firstTile
  generalize i 1 = n at *
  revert n
  change ∀ n : Fin 16, _
  decide +kernel

/-- The tile of 128 rows numbered `t` of a sequence's keys or values, at the key head `g`. -/
def rowsAt (X : S1x2048x256.Idx → Elt Ideal .f32) (t : Fin 16) (g : Fin 2) : Vec Ideal S1x128x128 .f32 :=
  fun y => X (ix3 0 ⟨t.val * 128 + (y 1).val, by have h : (y 1).val < 128 := (y 1).isLt; omega⟩ ⟨g.val * 128 + (y 2).val, by have h : (y 2).val < 128 := (y 2).isLt; omega⟩)

/-- A load of such a tile. -/
theorem read_rows {M : Memref sig .tc .vmem S1x2048x256 .f32} (h : M.IsWhole) (X : S1x2048x256.Idx → Elt Ideal .f32) (off : Fin 3 → Nat)
    (hb : ∀ a, off a + S1x128x128.size a ≤ S1x2048x256.size a) (t : Fin 16) (g : Fin 2) (e : off = ![0, t.val * 128, g.val * 128]) :
    View.readAt (Elt Ideal) M.view (Rect.unit (s := S1x2048x256) off S1x128x128.size hb).toLoadRect (h.unread X) = rowsAt X t g := by
  subst e
  funext y
  rw [h.readAt_unread]
  refine congrArg X (funext fun a => Fin.ext (match a with
    | ⟨0, _⟩ => by have h0 : (y 0).val < 1 := (y 0).isLt; show 0 + 1 * (y 0).val = 0; omega
    | ⟨1, _⟩ => by show t.val * 128 + 1 * (y 1).val = t.val * 128 + (y 1).val; omega
    | ⟨2, _⟩ => by show g.val * 128 + 1 * (y 2).val = g.val * 128 + (y 2).val; omega))

section Loops

variable (𝒱 : Variants) (c : Dev nD) (bd : Option 𝒱.V) (i : grid0.Coords)
  (arg2 : Memref sig .tc .smem S4 .f32) (harg2 : arg2.IsWhole) (arg3 : Memref sig .tc .vmem S1x128x512 .f32) (harg3 : arg3.IsWhole)
  (arg4 : Memref sig .tc .vmem S1x2048x256 .f32) (harg4 : arg4.IsWhole) (arg5 : Memref sig .tc .vmem S1x2048x256 .f32) (harg5 : arg5.IsWhole)
  (arg6 : Memref sig .tc .vmem S1x128x512 .bf16) (harg6 : arg6.IsWhole)

/-- The state after the tiles of a grid point: the block's own tile, after the one before it if there is one. -/
def afterTiles (i : grid0.Coords) (g : Fin 2) (p : IVec S256x1 32) (q : FVec Ideal S256x128 .bf16) (s : FVec Ideal S256x1 .f32) (col : IVec S256x128 32)
    (X Y : S1x2048x256.Idx → Elt Ideal .f32) (z : FVec Ideal S256x1 .f32 × FVec Ideal S256x1 .f32 × FVec Ideal S256x128 .f32) :
    FVec Ideal S256x1 .f32 × FVec Ideal S256x1 .f32 × FVec Ideal S256x128 .f32 :=
  tile (dist (BitVec.ofNat 32 (i 1).val) p col) q s (rowsAt X (i 1) g) (rowsAt Y (i 1) g)
    (if (i 1).val = 0 then z else
      tile (dist (BitVec.ofNat 32 ((i 1).val - 1)) p col) q s (rowsAt X ⟨(i 1).val - 1, by have h : (i 1).val < 16 := (i 1).isLt; omega⟩ g)
        (rowsAt Y ⟨(i 1).val - 1, by have h : (i 1).val < 16 := (i 1).isLt; omega⟩ g) z)

theorem loop3 (v5 : IVec S256x1 32) (v62 : FVec Ideal S256x128 .bf16) (v70 : FVec Ideal S256x1 .f32) (v84 : IVec S256x128 32)
    (X Y : S1x2048x256.Idx → Elt Ideal .f32) (z : FVec Ideal S256x1 .f32 × FVec Ideal S256x1 .f32 × FVec Ideal S256x128 .f32) (w : BitVec 32) (hw : w = firstTile i) (N : Nat) (hN : N = (k0_t3_loop i).trips) :
    st_k0_t3 (F := Ideal) 𝒱 c bd i arg2 harg2 arg3 harg3 arg4 harg4 arg5 harg5 arg6 harg6 v5 v62 v70 w v84 (harg4.unread X) (harg5.unread Y) z N
      = afterTiles i 1 v5 v62 v70 v84 X Y z := by
  subst hw
  have ht := trips3 i
  have h0 : 0 < (k0_t3_loop i).trips := by rw [ht]; split <;> decide
  have s1 := st_k0_t3_succ (F := Ideal) 𝒱 c bd i arg2 harg2 arg3 harg3 arg4 harg4 arg5 harg5 arg6 harg6 v5 v62 v70 (firstTile i) v84 (harg4.unread X) (harg5.unread Y) z ⟨0, h0⟩
  rw [trip3_eq] at s1
  simp only [st_k0_t3_zero, Nat.zero_add, iv_0] at s1
  unfold afterTiles
  by_cases hi : (i 1).val = 0
  · have e : k0_off3 i ⟨0, h0⟩ = ![0, (i 1).val * 128, ((1 : Fin 2)).val * 128] := (off3_0 i h0).trans (by rw [hi]; rfl)
    rw [read_rows harg4 X _ (k0_off3_inb i ⟨0, h0⟩) (i 1) 1 e, read_rows harg5 Y _ (k0_off3_inb i ⟨0, h0⟩) (i 1) 1 e] at s1
    have ew : (i 1).val - 1 = (i 1).val := by omega
    rw [hN, ht, if_pos hi, if_pos hi, s1, ew]
  · have h1 : 1 < (k0_t3_loop i).trips := by rw [ht, if_neg hi]; decide
    have hlt : (i 1).val < 16 := (i 1).isLt
    rw [read_rows harg4 X _ (k0_off3_inb i ⟨0, h0⟩) ⟨(i 1).val - 1, by omega⟩ 1 (off3_0 i h0),
      read_rows harg5 Y _ (k0_off3_inb i ⟨0, h0⟩) ⟨(i 1).val - 1, by omega⟩ 1 (off3_0 i h0)] at s1
    have s2 := st_k0_t3_succ (F := Ideal) 𝒱 c bd i arg2 harg2 arg3 harg3 arg4 harg4 arg5 harg5 arg6 harg6 v5 v62 v70 (firstTile i) v84 (harg4.unread X) (harg5.unread Y) z ⟨1, h1⟩
    rw [trip3_eq, read_rows harg4 X _ (k0_off3_inb i ⟨1, h1⟩) (i 1) 1 (off3_1 i h1 hi), read_rows harg5 Y _ (k0_off3_inb i ⟨1, h1⟩) (i 1) 1 (off3_1 i h1 hi)] at s2
    simp only [s1, iv_1 i hi, Nat.reduceAdd] at s2
    rw [hN, ht, if_neg hi, if_neg hi, s2]

theorem loop1 (arg1 : BitVec 32) (v5 : IVec S256x1 32) (v11 : FVec Ideal S256x128 .bf16) (v19 v29 : FVec Ideal S256x1 .f32) (v33 : IVec S256x128 32)
    (v34 v35 : FVec Ideal S256x1 .f32) (v36 : FVec Ideal S256x128 .f32) (v37 : BitVec 32)
    (X Y : S1x2048x256.Idx → Elt Ideal .f32) (z : FVec Ideal S256x1 .f32 × FVec Ideal S256x1 .f32 × FVec Ideal S256x128 .f32) (w : BitVec 32) (hw : w = firstTile i) (N : Nat) (hN : N = (k0_t1_loop i).trips) :
    st_k0_t1 (F := Ideal) 𝒱 c bd i arg2 harg2 arg3 harg3 arg4 harg4 arg5 harg5 arg6 harg6 arg1 v5 v11 v19 v29 w v33 v34 v35 v36 v37 (harg4.unread X) (harg5.unread Y) z N
      = afterTiles i 0 v5 v11 v19 v33 X Y z := by
  subst hw
  have ht := trips1 i
  have h0 : 0 < (k0_t1_loop i).trips := by rw [ht]; split <;> decide
  have s1 := st_k0_t1_succ (F := Ideal) 𝒱 c bd i arg2 harg2 arg3 harg3 arg4 harg4 arg5 harg5 arg6 harg6 arg1 v5 v11 v19 v29 (firstTile i) v33 v34 v35 v36 v37 (harg4.unread X) (harg5.unread Y) z ⟨0, h0⟩
  rw [trip1_eq] at s1
  simp only [st_k0_t1_zero, Nat.zero_add, iv_0] at s1
  unfold afterTiles
  by_cases hi : (i 1).val = 0
  · have e : k0_off1 i ⟨0, h0⟩ = ![0, (i 1).val * 128, ((0 : Fin 2)).val * 128] := (off1_0 i h0).trans (by rw [hi]; rfl)
    rw [read_rows harg4 X _ (k0_off1_inb i ⟨0, h0⟩) (i 1) 0 e, read_rows harg5 Y _ (k0_off1_inb i ⟨0, h0⟩) (i 1) 0 e] at s1
    have ew : (i 1).val - 1 = (i 1).val := by omega
    rw [hN, ht, if_pos hi, if_pos hi, s1, ew]
  · have h1 : 1 < (k0_t1_loop i).trips := by rw [ht, if_neg hi]; decide
    have hlt : (i 1).val < 16 := (i 1).isLt
    rw [read_rows harg4 X _ (k0_off1_inb i ⟨0, h0⟩) ⟨(i 1).val - 1, by omega⟩ 0 (off1_0 i h0),
      read_rows harg5 Y _ (k0_off1_inb i ⟨0, h0⟩) ⟨(i 1).val - 1, by omega⟩ 0 (off1_0 i h0)] at s1
    have s2 := st_k0_t1_succ (F := Ideal) 𝒱 c bd i arg2 harg2 arg3 harg3 arg4 harg4 arg5 harg5 arg6 harg6 arg1 v5 v11 v19 v29 (firstTile i) v33 v34 v35 v36 v37 (harg4.unread X) (harg5.unread Y) z ⟨1, h1⟩
    rw [trip1_eq, read_rows harg4 X _ (k0_off1_inb i ⟨1, h1⟩) (i 1) 0 (off1_1 i h1 hi), read_rows harg5 Y _ (k0_off1_inb i ⟨1, h1⟩) (i 1) 0 (off1_1 i h1 hi)] at s2
    simp only [s1, iv_1 i hi, Nat.reduceAdd] at s2
    rw [hN, ht, if_neg hi, if_neg hi, s2]

theorem loop2 (arg1 : BitVec 32) (v5 : IVec S256x1 32) (v11 : FVec Ideal S256x128 .bf16) (v19 v29 : FVec Ideal S256x1 .f32) (v31 : BitVec 32) (v33 : IVec S256x128 32)
    (v34 v35 : FVec Ideal S256x1 .f32) (v36 : FVec Ideal S256x128 .f32) (v37 v41 : BitVec 32)
    (X4 : BufTy.Contents (Elt Ideal) arg4.view.ty) (X5 : BufTy.Contents (Elt Ideal) arg5.view.ty) (z : FVec Ideal S256x1 .f32 × FVec Ideal S256x1 .f32 × FVec Ideal S256x128 .f32) (N : Nat) (hN : N = 0) :
    st_k0_t2 (F := Ideal) 𝒱 c bd i arg2 harg2 arg3 harg3 arg4 harg4 arg5 harg5 arg6 harg6 arg1 v5 v11 v19 v29 v31 v33 v34 v35 v36 v37 v41 X4 X5 z N = z := by
  subst hN; rfl

theorem loop4 (v5 : IVec S256x1 32) (v62 : FVec Ideal S256x128 .bf16) (v70 : FVec Ideal S256x1 .f32) (v84 : IVec S256x128 32) (v92 : BitVec 32)
    (X4 : BufTy.Contents (Elt Ideal) arg4.view.ty) (X5 : BufTy.Contents (Elt Ideal) arg5.view.ty) (z : FVec Ideal S256x1 .f32 × FVec Ideal S256x1 .f32 × FVec Ideal S256x128 .f32) (N : Nat) (hN : N = 0) :
    st_k0_t4 (F := Ideal) 𝒱 c bd i arg2 harg2 arg3 harg3 arg4 harg4 arg5 harg5 arg6 harg6 v5 v62 v70 v84 v92 X4 X5 z N = z := by
  subst hN; rfl

end Loops

/-- A load of one element of four. -/
theorem ld_one (X : S4.Idx → Elt Ideal .f32) (o : Fin 1 → Nat) (k : Fin 4) (ho : o 0 = k.val) {inb : ∀ a, o a + ![1] a ≤ S4.size a}
    {hp : 0 < (Rect.unit (s := S4) o ![1] inb).shape.numel} :
    (View.ld X (Rect.unit (s := S4) o ![1] inb) (Shape.Idx.first hp) : Elt Ideal .f32) = X (ix1 k) :=
  congrArg X (funext fun a => Fin.ext (match a with | ⟨0, _⟩ => by show o 0 + 1 * 0 = k.val; omega))

/-- What a grid point stores, from the states its two pairs of heads end with. -/
theorem outs_eq (m : (ℓ : Loc nD τ sig) → Buf (Elt Ideal) ℓ) (c : Dev nD) (t : Fin cfg0.N) (T1 T3)
    (h1 : T1 = afterTiles (grid0.coords t) 0 (k0_pay45 (grid0.coords t)) (k0_pay46 (iblk m c 1 t)) k0_pay47 (iota Kind.tc S256x128 32 [1] iota_S256x128_d1_w32) (iblk m c 2 t) (iblk m c 3 t) (k0_pay49, k0_pay50, k0_pay51))
    (h3 : T3 = afterTiles (grid0.coords t) 1 (k0_pay45 (grid0.coords t)) (k0_pay59 (iblk m c 1 t)) k0_pay60 (iota Kind.tc S256x128 32 [1] iota_S256x128_d1_w32) (iblk m c 2 t) (iblk m c 3 t) (k0_pay1, k0_pay2, k0_pay3)) :
    outsAt0 (F := Ideal) m c t
      = k0_pay8 (k0_pay57 (k0_pay48 ((iblk m c 0 t) (ix1 0)) ((iblk m c 0 t) (ix1 1))) T1.1 T1.2.1 T1.2.2)
          (k0_pay58 (k0_pay48 ((iblk m c 0 t) (ix1 0)) ((iblk m c 0 t) (ix1 1))) T1.1 T1.2.1 T1.2.2)
          (k0_pay61 ((iblk m c 0 t) (ix1 2)) ((iblk m c 0 t) (ix1 3))) T3.1 T3.2.1 T3.2.2 := by
  unfold outsAt0; frame_out
  rw [loop4, loop3, loop2, loop1, ← h1, ← h3]
  · rw [ld_one _ ![0] 0 rfl, ld_one _ ![1] 1 rfl, ld_one _ ![2] 2 rfl, ld_one _ ![3] 3 rfl]
  all_goals first | rfl | exact trips4 _ | exact trips2 _

/-! ## The rows of a stored block -/

/-- The quotient a row of a pair of heads ends with. -/
def ended (v : FVec Ideal S256x1 .f32) (z : FVec Ideal S256x1 .f32 × FVec Ideal S256x1 .f32 × FVec Ideal S256x128 .f32) (R : Fin 256) (d : Fin 128) : EReal :=
  Ideal.div (z.2.2 (ix2 R d) * Ideal.exp (z.1 (ix2 R 0) - max (z.1 (ix2 R 0) : EReal) (v (ix2 R 0))))
    (z.2.1 (ix2 R 0) * Ideal.exp (z.1 (ix2 R 0) - max (z.1 (ix2 R 0) : EReal) (v (ix2 R 0))) + Ideal.exp (v (ix2 R 0) - max (z.1 (ix2 R 0) : EReal) (v (ix2 R 0))))

theorem pay56_apply (v : FVec Ideal S256x1 .f32) (z : FVec Ideal S256x1 .f32 × FVec Ideal S256x1 .f32 × FVec Ideal S256x128 .f32) (R : Fin 256) (d : Fin 128) :
    k0_pay56 v z.1 z.2.1 z.2.2 (ix2 R d) = ended v z R d := by
  unfold k0_pay56
  pointwise
  rfl

theorem pay8_at (v v' : FVec Ideal S256x1 .f32) (z z' : FVec Ideal S256x1 .f32 × FVec Ideal S256x1 .f32 × FVec Ideal S256x128 .f32) (r : Fin 128) (e : Fin 512) :
    k0_pay8 (k0_pay57 v z.1 z.2.1 z.2.2) (k0_pay58 v z.1 z.2.1 z.2.2) v' z'.1 z'.2.1 z'.2.2 (ix3 0 r e)
      = if h : e.val < 128 then k0_pay56 v z.1 z.2.1 z.2.2 (ix2 ⟨r.val, by omega⟩ ⟨e.val, h⟩)
        else if h : e.val - 128 < 128 then k0_pay56 v z.1 z.2.1 z.2.2 (ix2 ⟨128 + r.val, by omega⟩ ⟨e.val - 128, h⟩)
        else if h : e.val - 128 - 128 < 128 then ended v' z' ⟨r.val, by omega⟩ ⟨e.val - 128 - 128, h⟩
        else ended v' z' ⟨128 + r.val, by omega⟩ ⟨e.val - 128 - 128 - 128, by omega⟩ := by
  unfold k0_pay8 k0_pay57 k0_pay58
  pointwise
  rfl

/-- The stored block's column `h * 128 + d` holds head `h`'s quotient. -/
theorem pay8_apply (v v' : FVec Ideal S256x1 .f32) (z z' : FVec Ideal S256x1 .f32 × FVec Ideal S256x1 .f32 × FVec Ideal S256x128 .f32) (r : Fin 128) (h : Fin 4) (d : Fin 128)
    (R : Fin 256) (hR : R.val = h.val % 2 * 128 + r.val) (e : Fin 512) (he : e.val = h.val * 128 + d.val) :
    k0_pay8 (k0_pay57 v z.1 z.2.1 z.2.2) (k0_pay58 v z.1 z.2.1 z.2.2) v' z'.1 z'.2.1 z'.2.2 (ix3 0 r e)
      = if h.val < 2 then ended v z R d else ended v' z' R d := by
  rw [pay8_at]
  have hd : d.val < 128 := d.isLt
  rcases (show h.val = 0 ∨ h.val = 1 ∨ h.val = 2 ∨ h.val = 3 by omega) with c | c | c | c
  · rw [dif_pos (by omega), if_pos (by omega), pay56_apply]
    exact congrArg₂ (ended v z) (Fin.ext (by show r.val = R.val; omega)) (Fin.ext (by show e.val = d.val; omega))
  · rw [dif_neg (by omega), dif_pos (by omega), if_pos (by omega), pay56_apply]
    exact congrArg₂ (ended v z) (Fin.ext (by show 128 + r.val = R.val; omega)) (Fin.ext (by show e.val - 128 = d.val; omega))
  · rw [dif_neg (by omega), dif_neg (by omega), dif_pos (by omega), if_neg (by omega)]
    exact congrArg₂ (ended v' z') (Fin.ext (by show r.val = R.val; omega)) (Fin.ext (by show e.val - 128 - 128 = d.val; omega))
  · rw [dif_neg (by omega), dif_neg (by omega), dif_neg (by omega), if_neg (by omega)]
    exact congrArg₂ (ended v' z') (Fin.ext (by show 128 + r.val = R.val; omega)) (Fin.ext (by show e.val - 128 - 128 - 128 = d.val; omega))

end Cert.Swa

end
-- ==== Proof.SwaRow.lean ====
/- A row of the attention kernel: the quotient it stores, over the band of 256 positions its query may read. -/
module

public import proofs.«01_k».proof.Proof.SwaLoop

@[expose] public section

set_option maxRecDepth 16384

noncomputable section

open Idealize.ShloMosaic Idealize.ShloMosaic.TcCoe Idealize.SL.Sem

namespace Cert.Swa

open Cert.KernelIdeal Cert.KernelIdeal.Gen Cert.KernelIdeal.Facts

/-! ## Sums over a band -/

/-- The sum of the weights of a band. -/
def bandSum (M : Fin 256 → BitVec 1) (X : Fin 256 → EReal) (μ : ℝ) : EReal := ∑ k, weight (M k) (X k) μ

/-- The weighted sum of a band's values. -/
def bandAcc (M : Fin 256 → BitVec 1) (X V : Fin 256 → EReal) (μ : ℝ) : EReal := ∑ k, weight (M k) (X k) μ * V k

/-- A band's scores are real where its mask holds. -/
def RealBand (M : Fin 256 → BitVec 1) (X : Fin 256 → EReal) : Prop := ∀ k, M k = 1#1 → ∃ ξ : ℝ, X k = ξ

theorem scales_bandSum {M : Fin 256 → BitVec 1} {X : Fin 256 → EReal} (h : RealBand M X) : Scales (bandSum M X) :=
  Scales.sum _ fun k => scales_weight _ _ (h k)

theorem scales_bandAcc {M : Fin 256 → BitVec 1} {X : Fin 256 → EReal} (h : RealBand M X) (V : Fin 256 → EReal) : Scales (bandAcc M X V) :=
  Scales.sum _ fun k => (scales_weight _ _ (h k)).mul_right _

theorem bandSum_real {M : Fin 256 → BitVec 1} {X : Fin 256 → EReal} (h : RealBand M X) (μ : ℝ) : ∃ w : ℝ, 0 ≤ w ∧ bandSum M X μ = w :=
  sum_real _ _ fun k => weight_real _ _ (h k) μ

/-- The earlier half of a band. -/
def lo (j : Fin 128) : Fin 256 := ⟨j.val, by omega⟩
/-- The later half of a band. -/
def hi (j : Fin 128) : Fin 256 := ⟨128 + j.val, by omega⟩

theorem sum_halves (f : Fin 256 → EReal) : ∑ k, f k = ∑ j, f (lo j) + ∑ j, f (hi j) :=
  Fin.sum_univ_add (a := 128) (b := 128) f

/-- Weights with equal masks, and equal scores where the mask holds, are equal. -/
theorem weight_congr {c c' : BitVec 1} {x x' : EReal} (hc : c = c') (hx : c' = 1#1 → x = x') : weight c x = weight c' x' := by
  subst hc
  funext μ
  unfold weight
  split
  · rename_i h; rw [hx h]
  · rfl

theorem weight_off {c : BitVec 1} (x : EReal) (μ : ℝ) (h : c = 0#1) : weight c x μ = 0 := by
  subst h; rfl

/-! ## The state of a row after its tiles -/

/-- AFTER THE TILES: a row that starts with nothing ends with the sums over its band. -/
theorem after_row (i : grid0.Coords) (g : Fin 2) (p : IVec S256x1 32) (q : FVec Ideal S256x128 .bf16) (s : FVec Ideal S256x1 .f32) (col : IVec S256x128 32)
    (X Y : S1x2048x256.Idx → Elt Ideal .f32) (z : FVec Ideal S256x1 .f32 × FVec Ideal S256x1 .f32 × FVec Ideal S256x128 .f32) (r : Fin 256)
    (M : Fin 256 → BitVec 1) (B : Fin 256 → EReal) (V : Fin 128 → Fin 256 → EReal) (hB : RealBand M B)
    (hz : Running (fun _ _ => 0) (fun _ => 0) (z.1 (ix2 r 0)) (z.2.1 (ix2 r 0)) fun d : Fin 128 => z.2.2 (ix2 r d))
    (h0 : (i 1).val = 0 → ∀ j, M (lo j) = 0#1)
    (hlo : ∀ h : (i 1).val ≠ 0, ∀ j, within (dist (BitVec.ofNat 32 ((i 1).val - 1)) p col) (ix2 r j) = M (lo j)
      ∧ (M (lo j) = 1#1 → raw (dist (BitVec.ofNat 32 ((i 1).val - 1)) p col) q s (rowsAt X ⟨(i 1).val - 1, by have h : (i 1).val < 16 := (i 1).isLt; omega⟩ g) r j = B (lo j))
      ∧ ∀ d, rowsAt Y ⟨(i 1).val - 1, by have h : (i 1).val < 16 := (i 1).isLt; omega⟩ g (ix3 0 j d) = V d (lo j))
    (hhi : ∀ j, within (dist (BitVec.ofNat 32 (i 1).val) p col) (ix2 r j) = M (hi j)
      ∧ (M (hi j) = 1#1 → raw (dist (BitVec.ofNat 32 (i 1).val) p col) q s (rowsAt X (i 1) g) r j = B (hi j))
      ∧ ∀ d, rowsAt Y (i 1) g (ix3 0 j d) = V d (hi j)) :
    Running (fun d => bandAcc M B (V d)) (bandSum M B) ((afterTiles i g p q s col X Y z).1 (ix2 r 0)) ((afterTiles i g p q s col X Y z).2.1 (ix2 r 0))
      fun d : Fin 128 => (afterTiles i g p q s col X Y z).2.2 (ix2 r d) := by
  have hHi : ∀ j, weight (within (dist (BitVec.ofNat 32 (i 1).val) p col) (ix2 r j)) (raw (dist (BitVec.ofNat 32 (i 1).val) p col) q s (rowsAt X (i 1) g) r j)
      = weight (M (hi j)) (B (hi j)) := fun j => weight_congr (hhi j).1 (hhi j).2.1
  have rHi : ∀ j, within (dist (BitVec.ofNat 32 (i 1).val) p col) (ix2 r j) = 1#1 → ∃ ξ : ℝ, raw (dist (BitVec.ofNat 32 (i 1).val) p col) q s (rowsAt X (i 1) g) r j = ξ := fun j hc => by
    have hm : M (hi j) = 1#1 := (hhi j).1 ▸ hc
    rw [(hhi j).2.1 hm]; exact hB _ hm
  have eA : ∀ d μ, bandAcc M B (V d) μ = ∑ j, weight (M (lo j)) (B (lo j)) μ * V d (lo j) + ∑ j, weight (M (hi j)) (B (hi j)) μ * V d (hi j) :=
    fun d μ => sum_halves _
  have eL : ∀ μ, bandSum M B μ = ∑ j, weight (M (lo j)) (B (lo j)) μ + ∑ j, weight (M (hi j)) (B (hi j)) μ := fun μ => sum_halves _
  unfold afterTiles
  by_cases hi0 : (i 1).val = 0
  · rw [if_pos hi0]
    have key := tile_row (dist (BitVec.ofNat 32 (i 1).val) p col) q s (rowsAt X (i 1) g) (rowsAt Y (i 1) g) z r hz (fun _ => Scales.zero) Scales.zero rHi
    simp only [hHi, (hhi _).2.2] at key
    convert key using 1
    · funext d μ
      rw [eA]
      congr 1
      exact Finset.sum_eq_zero fun j _ => by rw [weight_off _ _ (h0 hi0 j), zero_mul]
    · funext μ
      rw [eL]
      congr 1
      exact Finset.sum_eq_zero fun j _ => weight_off _ _ (h0 hi0 j)
  · rw [if_neg hi0]
    have hl := hlo hi0
    have hLo : ∀ j, weight (within (dist (BitVec.ofNat 32 ((i 1).val - 1)) p col) (ix2 r j)) (raw (dist (BitVec.ofNat 32 ((i 1).val - 1)) p col) q s (rowsAt X ⟨(i 1).val - 1, by have h : (i 1).val < 16 := (i 1).isLt; omega⟩ g) r j)
        = weight (M (lo j)) (B (lo j)) := fun j => weight_congr (hl j).1 (hl j).2.1
    have rLo : ∀ j, within (dist (BitVec.ofNat 32 ((i 1).val - 1)) p col) (ix2 r j) = 1#1 → ∃ ξ : ℝ, raw (dist (BitVec.ofNat 32 ((i 1).val - 1)) p col) q s (rowsAt X ⟨(i 1).val - 1, by have h : (i 1).val < 16 := (i 1).isLt; omega⟩ g) r j = ξ := fun j hc => by
      have hm : M (lo j) = 1#1 := (hl j).1 ▸ hc
      rw [(hl j).2.1 hm]; exact hB _ hm
    have k1 := tile_row _ q s _ (rowsAt Y ⟨(i 1).val - 1, by have h : (i 1).val < 16 := (i 1).isLt; omega⟩ g) z r hz (fun _ => Scales.zero) Scales.zero rLo
    simp only [hLo, (hl _).2.2, zero_add] at k1
    have key := tile_row (dist (BitVec.ofNat 32 (i 1).val) p col) q s (rowsAt X (i 1) g) (rowsAt Y (i 1) g) _ r k1
      (fun d => Scales.sum _ fun j => (scales_weight _ _ (hB (lo j))).mul_right _) (Scales.sum _ fun j => scales_weight _ _ (hB (lo j))) rHi
    simp only [hHi, (hhi _).2.2] at key
    convert key using 1
    · funext d μ
      rw [eA]
    · funext μ
      rw [eL]

/-- The stored quotient of such a row. -/
theorem stored_row (v : FVec Ideal S256x1 .f32) (z : FVec Ideal S256x1 .f32 × FVec Ideal S256x1 .f32 × FVec Ideal S256x128 .f32) (R : Fin 256) (d : Fin 128)
    (M : Fin 256 → BitVec 1) (B : Fin 256 → EReal) (V : Fin 128 → Fin 256 → EReal) (hB : RealBand M B) (σ : ℝ) (hσ : v (ix2 R 0) = (σ : EReal))
    (h : Running (fun d => bandAcc M B (V d)) (bandSum M B) (z.1 (ix2 R 0)) (z.2.1 (ix2 R 0)) fun d : Fin 128 => z.2.2 (ix2 R d)) (ρ : ℝ) :
    ended v z R d = quotient (bandAcc M B (V d)) (bandSum M B) σ ρ := by
  obtain ⟨μ, hm, hl, ha⟩ := h
  have had : z.2.2 (ix2 R d) = bandAcc M B (V d) μ := ha d
  unfold ended
  rw [hm, hl, had, hσ]
  exact quotient_final (scales_bandAcc hB (V d)) (scales_bandSum hB) (bandSum_real hB) σ μ ρ

end Cert.Swa

end
-- ==== Proof.SwaBand.lean ====
/- The attention's band, as the mathematics writes it: for each query the 256 positions of its block and the block before, their mask, scores and values. -/
module

public import proofs.«01_k».proof.Proof.SwaRow

@[expose] public section

set_option maxRecDepth 16384

noncomputable section

open Idealize.ShloMosaic Idealize.ShloMosaic.TcCoe Idealize.SL.Sem

namespace Cert.Swa

open Cert.KernelIdeal

/-- The sequence position of place `k` of the band of block `n` (the first block's earlier half is masked, so any position serves there). -/
def posOf (n : Fin 16) (k : Fin 256) : Fin 2048 := ⟨n.val * 128 + k.val - 128, by omega⟩

/-- The same position as a word, below zero in the first block's earlier half. -/
def posWord (n : Fin 16) (k : Fin 256) : BitVec 32 := (BitVec.ofNat 32 n.val * 128#32 - 128#32) + BitVec.ofNat 32 k.val

/-- Query position minus key position. -/
def gap (n : Fin 16) (r : Fin 128) (k : Fin 256) : BitVec 32 := (BitVec.ofNat 32 n.val * 128#32 + BitVec.ofNat 32 r.val) - posWord n k

/-- The mask: the key is not after the query, less than 128 before it, and there. -/
def bandMask (n : Fin 16) (r : Fin 128) (k : Fin 256) : BitVec 1 :=
  IntOp.andi (IntOp.andi (IntOp.cmpi .sge (gap n r k) 0#32) (IntOp.cmpi .slt (gap n r k) 128#32)) (IntOp.cmpi .sge (posWord n k) 0#32)

/-- A head's slope. -/
def slope (h : Fin 4) : ℝ := (1 / 2) ^ (h.val + 1)

/-- The product of a query with the band's key. -/
def product (P : S4x2048x6656.Idx → EReal) (b : Fin 4) (n : Fin 16) (r : Fin 128) (h : Fin 4) (k : Fin 256) : EReal :=
  ∑ d : Fin 128, P (ix3 b ⟨n.val * 128 + r.val, by omega⟩ ⟨512 + (h.val * 128 + d.val), by omega⟩)
    * P (ix3 b (posOf n k) ⟨5888 + (h.val / 2 * 128 + d.val), by omega⟩)

/-- The score. -/
def bandScore (P : S4x2048x6656.Idx → EReal) (b : Fin 4) (n : Fin 16) (r : Fin 128) (h : Fin 4) (k : Fin 256) : EReal :=
  product P b n r h k * Ideal.ofBits .f32 0x3DB504F3#32 - (slope h : EReal) * FloatOps.sitofp (F := Ideal) .f32 (gap n r k)

/-- The value at a place of the band. -/
def bandValue (P : S4x2048x6656.Idx → EReal) (b : Fin 4) (n : Fin 16) (h : Fin 4) (d : Fin 128) (k : Fin 256) : EReal :=
  P (ix3 b (posOf n k) ⟨6144 + (h.val / 2 * 128 + d.val), by omega⟩)

/-- The attention's result for a query, a head and a column, with the exponentials taken relative to `ρ`. -/
def attended (P : S4x2048x6656.Idx → EReal) (σ : ℝ) (b : Fin 4) (n : Fin 16) (r : Fin 128) (h : Fin 4) (d : Fin 128) (ρ : ℝ) : EReal :=
  quotient (bandAcc (bandMask n r) (bandScore P b n r h) (bandValue P b n h d)) (bandSum (bandMask n r) (bandScore P b n r h)) σ ρ

/-! ## Words -/

theorem posWord_sign : ∀ (n : Fin 16) (k : Fin 256), IntOp.cmpi .sge (posWord n k) 0#32 = if n.val = 0 ∧ k.val < 128 then 0#1 else 1#1 := by
  unfold posWord
  decide +kernel

theorem posWord_hi (n : Fin 16) (j : Fin 128) : posWord n (hi j) = BitVec.ofNat 32 n.val * 128#32 + BitVec.ofNat 32 j.val := by
  have e : BitVec.ofNat 32 (128 + j.val) = 128#32 + BitVec.ofNat 32 j.val := BitVec.ofNat_add 128 j.val
  show (BitVec.ofNat 32 n.val * 128#32 - 128#32) + BitVec.ofNat 32 (128 + j.val) = _
  rw [e, ← BitVec.add_assoc, BitVec.sub_add_cancel]

theorem posWord_lo (n : Fin 16) (j : Fin 128) (h : n.val ≠ 0) : posWord n (lo j) = BitVec.ofNat 32 (n.val - 1) * 128#32 + BitVec.ofNat 32 j.val := by
  have e : ∀ n : Fin 16, n.val ≠ 0 → BitVec.ofNat 32 n.val * 128#32 - 128#32 = BitVec.ofNat 32 (n.val - 1) * 128#32 := by decide +kernel
  show (BitVec.ofNat 32 n.val * 128#32 - 128#32) + BitVec.ofNat 32 j.val = _
  rw [e n h]

theorem andi_one (c : BitVec 1) : IntOp.andi c 1#1 = c := by
  revert c; decide

theorem andi_zero (c : BitVec 1) : IntOp.andi c 0#1 = 0#1 := by
  revert c; decide

theorem mask_first (n : Fin 16) (r : Fin 128) (j : Fin 128) (h : n.val = 0) : bandMask n r (lo j) = 0#1 := by
  unfold bandMask
  rw [posWord_sign, if_pos ⟨h, j.isLt⟩, andi_zero]

theorem mask_lo (n : Fin 16) (r : Fin 128) (j : Fin 128) (h : n.val ≠ 0) :
    bandMask n r (lo j) = IntOp.andi (IntOp.cmpi .sge (gap n r (lo j)) 0#32) (IntOp.cmpi .slt (gap n r (lo j)) 128#32) := by
  unfold bandMask
  rw [posWord_sign, if_neg (fun c => h c.1), andi_one]

theorem mask_hi (n : Fin 16) (r : Fin 128) (j : Fin 128) :
    bandMask n r (hi j) = IntOp.andi (IntOp.cmpi .sge (gap n r (hi j)) 0#32) (IntOp.cmpi .slt (gap n r (hi j)) 128#32) := by
  unfold bandMask
  rw [posWord_sign, if_neg (fun c => by have h : 128 + j.val < 128 := c.2; omega), andi_one]

/-- Where the mask holds, the place is no earlier half of a first block. -/
theorem mask_there (n : Fin 16) (r : Fin 128) (k : Fin 256) (h : bandMask n r k = 1#1) : n.val ≠ 0 ∨ 128 ≤ k.val := by
  by_contra c
  have e : bandMask n r k = 0#1 := by
    unfold bandMask
    rw [posWord_sign, if_pos (by omega), andi_zero]
  rw [e] at h
  exact absurd h (by decide)

/-! ## Reality -/

/-- The queries and keys are real. -/
def RealInputs (P : S4x2048x6656.Idx → EReal) : Prop :=
  (∀ b t (e : Fin 512), ∃ ξ : ℝ, P (ix3 b t ⟨512 + e.val, by omega⟩) = ξ) ∧ ∀ b t (e : Fin 256), ∃ ξ : ℝ, P (ix3 b t ⟨5888 + e.val, by omega⟩) = ξ

theorem sum_is_real {ι : Type*} (s : Finset ι) (f : ι → EReal) (h : ∀ k, ∃ ξ : ℝ, f k = ξ) : ∃ ξ : ℝ, ∑ k ∈ s, f k = ξ := by
  choose g hg using h
  refine ⟨∑ k ∈ s, g k, ?_⟩
  simp only [hg]
  induction s using Finset.cons_induction with
  | empty => simp
  | cons a s ha ih => rw [Finset.sum_cons, Finset.sum_cons, ih, EReal.coe_add]

theorem score_real (P : S4x2048x6656.Idx → EReal) (hP : RealInputs P) (b : Fin 4) (n : Fin 16) (r : Fin 128) (h : Fin 4) (k : Fin 256) :
    ∃ ξ : ℝ, bandScore P b n r h k = ξ := by
  obtain ⟨p, hp⟩ : ∃ ξ : ℝ, product P b n r h k = ξ := sum_is_real _ _ fun d => by
    obtain ⟨x, hx⟩ := hP.1 b ⟨n.val * 128 + r.val, by omega⟩ ⟨h.val * 128 + d.val, by omega⟩
    obtain ⟨y, hy⟩ := hP.2 b (posOf n k) ⟨h.val / 2 * 128 + d.val, by omega⟩
    exact ⟨x * y, by rw [hx, hy, EReal.coe_mul]⟩
  obtain ⟨s, hs⟩ := real_bits 0x3DB504F3#32 (by decide)
  have hd : (FloatOps.sitofp (F := Ideal) .f32 (gap n r k) : EReal) = (((gap n r k).toInt : ℝ) : EReal) := rfl
  exact ⟨p * s - slope h * ((gap n r k).toInt : ℝ), by unfold bandScore; rw [hp, hs, hd, ← EReal.coe_mul, ← EReal.coe_mul, ← EReal.coe_sub]⟩

theorem band_real (P : S4x2048x6656.Idx → EReal) (hP : RealInputs P) (b : Fin 4) (n : Fin 16) (r : Fin 128) (h : Fin 4) :
    RealBand (bandMask n r) (bandScore P b n r h) := fun k _ => score_real P hP b n r h k

end Cert.Swa

end
-- ==== Proof.SwaKernel.lean ====
/- What the attention kernel stores: every entry of a block is the attention's result over the query's band. -/
module

public import proofs.«01_k».proof.Proof.SwaBand

@[expose] public section

set_option maxRecDepth 16384

noncomputable section

open Idealize.ShloMosaic Idealize.ShloMosaic.TcCoe Idealize.SL.Sem

namespace Cert.Swa

open Cert.KernelIdeal Cert.KernelIdeal.Gen Cert.KernelIdeal.Facts

/-! ## The row's constants -/

theorem low_bits : ∀ R : Fin 256, IntOp.andi (BitVec.ofNat 32 R.val) 127#32 = BitVec.ofNat 32 (R.val % 128) := by decide +kernel

theorem first_half : ∀ R : Fin 256, IntOp.cmpi .eq (IntOp.shrsi .vector (BitVec.ofNat 32 R.val) 7#32) 0#32 = if R.val < 128 then 1#1 else 0#1 := by decide +kernel

theorem pay45_apply (i : grid0.Coords) (R : Fin 256) : k0_pay45 i (ix2 R 0) = BitVec.ofNat 32 (i 1).val * 128#32 + BitVec.ofNat 32 (R.val % 128) := by
  rw [← low_bits]
  unfold k0_pay45
  pointwise
  rfl

theorem pay46_apply (X : Vec Ideal S1x128x512 .f32) (R : Fin 256) (d : Fin 128) :
    k0_pay46 X (ix2 R d) = X (ix3 0 ⟨R.val % 128, by omega⟩ ⟨(R.val / 128) * 128 + d.val, by omega⟩) := by
  unfold k0_pay46
  pointwise
  split
  · refine congrArg X (congrArg₂ (ix3 0) (Fin.ext ?_) (Fin.ext ?_))
    · show R.val = R.val % 128; omega
    · show d.val = (R.val / 128) * 128 + d.val; omega
  · refine congrArg X (congrArg₂ (ix3 0) (Fin.ext ?_) (Fin.ext ?_))
    · show R.val - 128 = R.val % 128; omega
    · show 128 + d.val = (R.val / 128) * 128 + d.val; omega

theorem pay59_apply (X : Vec Ideal S1x128x512 .f32) (R : Fin 256) (d : Fin 128) :
    k0_pay59 X (ix2 R d) = X (ix3 0 ⟨R.val % 128, by omega⟩ ⟨(2 + R.val / 128) * 128 + d.val, by omega⟩) := by
  unfold k0_pay59
  pointwise
  split
  · refine congrArg X (congrArg₂ (ix3 0) (Fin.ext ?_) (Fin.ext ?_))
    · show R.val = R.val % 128; omega
    · show 256 + d.val = (2 + R.val / 128) * 128 + d.val; omega
  · refine congrArg X (congrArg₂ (ix3 0) (Fin.ext ?_) (Fin.ext ?_))
    · show R.val - 128 = R.val % 128; omega
    · show 384 + d.val = (2 + R.val / 128) * 128 + d.val; omega

theorem pay47_apply (R : Fin 256) : (k0_pay47 (F := Ideal)) (ix2 R 0) = (if R.val < 128 then ((1 / 2 : ℝ) : EReal) else ((1 / 4 : ℝ) : EReal)) := by
  rw [← bits_half, ← bits_quarter]
  unfold k0_pay47
  pointwise
  rw [first_half]
  split <;> rfl

theorem pay60_apply (R : Fin 256) : (k0_pay60 (F := Ideal)) (ix2 R 0) = (if R.val < 128 then ((1 / 8 : ℝ) : EReal) else ((1 / 16 : ℝ) : EReal)) := by
  rw [← bits_eighth, ← bits_sixteenth]
  unfold k0_pay60
  pointwise
  rw [first_half]
  split <;> rfl

theorem pay48_apply (a b : Elt Ideal .f32) (R : Fin 256) : k0_pay48 a b (ix2 R 0) = if R.val < 128 then a else b := by
  unfold k0_pay48
  pointwise
  rw [first_half]
  split <;> rfl

theorem pay61_apply (a b : Elt Ideal .f32) (R : Fin 256) : k0_pay61 a b (ix2 R 0) = if R.val < 128 then a else b := by
  unfold k0_pay61
  pointwise
  rw [first_half]
  split <;> rfl

/-- The starting state holds nothing. -/
theorem start (M Z : FVec Ideal S256x1 .f32) (Y : FVec Ideal S256x128 .f32) (hM : M = k0_pay49) (hZ : Z = k0_pay50) (hY : Y = k0_pay51) (R : Fin 256) :
    Running (fun (_ : Fin 128) _ => 0) (fun _ => 0) (M (ix2 R 0)) (Z (ix2 R 0)) fun d : Fin 128 => Y (ix2 R d) := by
  obtain ⟨μ, hμ⟩ := real_bits 0xF149F2CA#32 (by decide)
  subst hM hZ hY
  exact ⟨μ, hμ, bits_zero, fun d => bits_zero⟩

/-! ## A pair of heads -/

/-- The state a row of a pair ends with, from what its row reads. -/
theorem pair_row (P : S4x2048x6656.Idx → EReal) (hP : RealInputs P) (i : grid0.Coords) (b : Fin 4) (n : Fin 16) (hn : (i 1).val = n.val) (g : Fin 2)
    (p : IVec S256x1 32) (q : FVec Ideal S256x128 .bf16) (s : FVec Ideal S256x1 .f32) (col : IVec S256x128 32)
    (X Y : S1x2048x256.Idx → Elt Ideal .f32) (z : FVec Ideal S256x1 .f32 × FVec Ideal S256x1 .f32 × FVec Ideal S256x128 .f32) (R : Fin 256) (r : Fin 128) (h : Fin 4) (hg : h.val / 2 = g.val)
    (hp : p (ix2 R 0) = BitVec.ofNat 32 n.val * 128#32 + BitVec.ofNat 32 r.val)
    (hc : ∀ j : Fin 128, col (ix2 R j) = BitVec.ofNat 32 j.val)
    (hq : ∀ d : Fin 128, q (ix2 R d) = P (ix3 b ⟨n.val * 128 + r.val, by omega⟩ ⟨512 + (h.val * 128 + d.val), by omega⟩))
    (hs : s (ix2 R 0) = (slope h : EReal))
    (hX : ∀ (t : Fin 2048) (e : Fin 256), X (ix3 0 t e) = P (ix3 b t ⟨5888 + e.val, by omega⟩))
    (hY : ∀ (t : Fin 2048) (e : Fin 256), Y (ix3 0 t e) = P (ix3 b t ⟨6144 + e.val, by omega⟩))
    (hz : Running (fun _ _ => 0) (fun _ => 0) (z.1 (ix2 R 0)) (z.2.1 (ix2 R 0)) fun d : Fin 128 => z.2.2 (ix2 R d)) :
    Running (fun d => bandAcc (bandMask n r) (bandScore P b n r h) (bandValue P b n h d)) (bandSum (bandMask n r) (bandScore P b n r h))
      ((afterTiles i g p q s col X Y z).1 (ix2 R 0)) ((afterTiles i g p q s col X Y z).2.1 (ix2 R 0))
      fun d : Fin 128 => (afterTiles i g p q s col X Y z).2.2 (ix2 R d) := by
  have hd : ∀ (w : BitVec 32) (j : Fin 128) (k : Fin 256), posWord n k = w * 128#32 + BitVec.ofNat 32 j.val → dist w p col (ix2 R j) = gap n r k := fun w j k e => by
    rw [dist_apply, hp, hc]
    unfold gap
    rw [e]
  have hraw : ∀ (w : BitVec 32) (T : Fin 16) (j : Fin 128) (k : Fin 256), posWord n k = w * 128#32 + BitVec.ofNat 32 j.val → T.val * 128 + j.val = (posOf n k).val →
      raw (dist w p col) q s (rowsAt X T g) R j = bandScore P b n r h k := fun w T j k e eT => by
    unfold raw bandScore product
    rw [hd w j k e, hs]
    refine congrArg (fun x : EReal => x * Ideal.ofBits .f32 0x3DB504F3#32 - (slope h : EReal) * FloatOps.sitofp (F := Ideal) .f32 (gap n r k)) (Finset.sum_congr rfl fun d _ => ?_)
    rw [hq]
    refine congrArg _ ((hX _ _).trans (congrArg P ?_))
    refine congrArg₂ (ix3 b) (Fin.ext eT) (Fin.ext ?_)
    show 5888 + (g.val * 128 + d.val) = 5888 + (h.val / 2 * 128 + d.val)
    omega
  have hval : ∀ (T : Fin 16) (j : Fin 128) (k : Fin 256), T.val * 128 + j.val = (posOf n k).val → ∀ d, rowsAt Y T g (ix3 0 j d) = bandValue P b n h d k := fun T j k eT d => by
    refine (hY _ _).trans (congrArg P (congrArg₂ (ix3 b) (Fin.ext eT) (Fin.ext ?_)))
    show 6144 + (g.val * 128 + d.val) = 6144 + (h.val / 2 * 128 + d.val)
    omega
  refine after_row i g p q s col X Y z R (bandMask n r) (bandScore P b n r h) (fun d => bandValue P b n h d) (band_real P hP b n r h) hz ?_ ?_ ?_
  · exact fun h0 j => mask_first n r j (hn ▸ h0)
  · intro h0 j
    have h0' : n.val ≠ 0 := hn ▸ h0
    have e : posWord n (lo j) = BitVec.ofNat 32 ((i 1).val - 1) * 128#32 + BitVec.ofNat 32 j.val := by rw [hn]; exact posWord_lo n j h0'
    have eT : ((i 1).val - 1) * 128 + j.val = (posOf n (lo j)).val := by show _ = n.val * 128 + j.val - 128; rw [hn]; omega
    exact ⟨by rw [within_apply, hd _ j _ e, mask_lo n r j h0'], fun _ => hraw _ _ j _ e eT, hval _ j _ eT⟩
  · intro j
    have e : posWord n (hi j) = BitVec.ofNat 32 (i 1).val * 128#32 + BitVec.ofNat 32 j.val := by rw [hn]; exact posWord_hi n j
    have eT : (i 1).val * 128 + j.val = (posOf n (hi j)).val := by show _ = n.val * 128 + (128 + j.val) - 128; rw [hn]; omega
    exact ⟨by rw [within_apply, hd _ j _ e, mask_hi n r j], fun _ => hraw _ (i 1) j _ e eT, hval (i 1) j _ eT⟩

/-! ## A stored block -/

variable (m : (ℓ : Loc nD τ sig) → Buf (Elt Ideal) ℓ)

/-- Where each window's block lies at a grid point. -/
theorem idx : ∀ t : Fin cfg0.N, win0_0.index t = ![0] ∧ win0_1.index t = ![t.val / 16, t.val % 16, 1] ∧ win0_2.index t = ![t.val / 16, 0, 23]
    ∧ win0_3.index t = ![t.val / 16, 0, 24] ∧ win0_4.index t = ![t.val / 16, t.val % 16, 0] ∧ (grid0.coords t 1).val = t.val % 16 ∧ t.val < 64 :=
  (by decide +kernel : ∀ t : Fin grid0.N, _)

/-- The batch of a grid point. -/
def batchOf (t : Fin cfg0.N) : Fin 4 := ⟨t.val / 16, by have h := (idx t).2.2.2.2.2.2; omega⟩
/-- The query block of a grid point. -/
def blockOf (t : Fin cfg0.N) : Fin 16 := ⟨t.val % 16, by omega⟩

theorem sinks_at (c : Dev nD) (t : Fin cfg0.N) (h : Fin 4) : iblk m c 0 t (ix1 h) = m ((c : Thread nD τ).loc main_arg1) (ix1 h) := by
  blk_point [iblk, V, idx t]

theorem queries_at (c : Dev nD) (t : Fin cfg0.N) (r : Fin 128) (e : Fin 512) :
    iblk m c 1 t (ix3 0 r e) = m ((c : Thread nD τ).loc main_arg0) (ix3 (batchOf t) ⟨(blockOf t).val * 128 + r.val, by have h := (blockOf t).isLt; omega⟩ ⟨512 + e.val, by omega⟩) := by
  unfold batchOf blockOf
  blk_point [iblk, V, idx t]

theorem keys_at (c : Dev nD) (t : Fin cfg0.N) (r : Fin 2048) (e : Fin 256) :
    iblk m c 2 t (ix3 0 r e) = m ((c : Thread nD τ).loc main_arg0) (ix3 (batchOf t) r ⟨5888 + e.val, by omega⟩) := by
  unfold batchOf
  blk_point [iblk, V, idx t]

theorem values_at (c : Dev nD) (t : Fin cfg0.N) (r : Fin 2048) (e : Fin 256) :
    iblk m c 3 t (ix3 0 r e) = m ((c : Thread nD τ).loc main_arg0) (ix3 (batchOf t) r ⟨6144 + e.val, by omega⟩) := by
  unfold batchOf
  blk_point [iblk, V, idx t]

/-- WHAT A GRID POINT STORES: the attention's results for its batch and its query block. -/
theorem stored (c : Dev nD) (t : Fin cfg0.N) (hP : RealInputs (m ((c : Thread nD τ).loc main_arg0))) (σ : Fin 4 → ℝ)
    (hσ : ∀ h, m ((c : Thread nD τ).loc main_arg1) (ix1 h) = (σ h : EReal)) (r : Fin 128) (h : Fin 4) (d : Fin 128) (e : Fin 512) (he : e.val = h.val * 128 + d.val) (ρ : ℝ) :
    outsAt0 (F := Ideal) m c t (ix3 0 r e) = attended (m ((c : Thread nD τ).loc main_arg0)) (σ h) (batchOf t) (blockOf t) r h d ρ := by
  have hn : (grid0.coords t 1).val = (blockOf t).val := (idx t).2.2.2.2.2.1
  rw [outs_eq m c t _ _ rfl rfl, pay8_apply _ _ _ _ r h d ⟨h.val % 2 * 128 + r.val, by omega⟩ rfl e he]
  have hr : (h.val % 2 * 128 + r.val) % 128 = r.val := by omega
  have hc : ∀ j : Fin 128, (iota Kind.tc S256x128 32 [1] iota_S256x128_d1_w32) (ix2 ⟨h.val % 2 * 128 + r.val, by omega⟩ j) = BitVec.ofNat 32 j.val := fun j => by
    pointwise
  have hp : k0_pay45 (grid0.coords t) (ix2 ⟨h.val % 2 * 128 + r.val, by omega⟩ 0) = BitVec.ofNat 32 (blockOf t).val * 128#32 + BitVec.ofNat 32 r.val := by
    rw [pay45_apply, hn]; simp only [hr]
  unfold attended
  by_cases h2 : h.val < 2
  · rw [if_pos h2]
    refine stored_row _ _ ⟨h.val % 2 * 128 + r.val, by omega⟩ d _ _ (fun d => bandValue (m ((c : Thread nD τ).loc main_arg0)) (batchOf t) (blockOf t) h d) (band_real _ hP _ _ _ _) (σ h) ?_ ?_ ρ
    · rw [pay48_apply, sinks_at, sinks_at, ← hσ]
      rcases (show h.val = 0 ∨ h.val = 1 by omega) with k | k
      · rw [if_pos (by show h.val % 2 * 128 + r.val < 128; omega)]; exact congrArg _ (congrArg ix1 (Fin.ext k.symm))
      · rw [if_neg (by show ¬ h.val % 2 * 128 + r.val < 128; omega)]; exact congrArg _ (congrArg ix1 (Fin.ext k.symm))
    · refine pair_row _ hP _ (batchOf t) (blockOf t) hn 0 _ _ _ _ _ _ _ _ r h (by show h.val / 2 = 0; omega) hp hc (fun d => ?_) ?_ (keys_at m c t) (values_at m c t) (start k0_pay49 k0_pay50 k0_pay51 rfl rfl rfl ⟨h.val % 2 * 128 + r.val, by omega⟩)
      · rw [pay46_apply, queries_at]
        refine congrArg _ (congrArg₂ (ix3 _) (Fin.ext ?_) (Fin.ext ?_))
        · show _ * 128 + (h.val % 2 * 128 + r.val) % 128 = _ * 128 + r.val; rw [hr]
        · show 512 + ((h.val % 2 * 128 + r.val) / 128 * 128 + d.val) = 512 + (h.val * 128 + d.val); omega
      · rw [pay47_apply]; unfold slope
        rcases (show h.val = 0 ∨ h.val = 1 by omega) with k | k
        · rw [if_pos (by show h.val % 2 * 128 + r.val < 128; omega), k]; norm_num
        · rw [if_neg (by show ¬ h.val % 2 * 128 + r.val < 128; omega), k]; norm_num
  · rw [if_neg h2]
    refine stored_row _ _ ⟨h.val % 2 * 128 + r.val, by omega⟩ d _ _ (fun d => bandValue (m ((c : Thread nD τ).loc main_arg0)) (batchOf t) (blockOf t) h d) (band_real _ hP _ _ _ _) (σ h) ?_ ?_ ρ
    · rw [pay61_apply, sinks_at, sinks_at, ← hσ]
      rcases (show h.val = 2 ∨ h.val = 3 by omega) with k | k
      · rw [if_pos (by show h.val % 2 * 128 + r.val < 128; omega)]; exact congrArg _ (congrArg ix1 (Fin.ext k.symm))
      · rw [if_neg (by show ¬ h.val % 2 * 128 + r.val < 128; omega)]; exact congrArg _ (congrArg ix1 (Fin.ext k.symm))
    · refine pair_row _ hP _ (batchOf t) (blockOf t) hn 1 _ _ _ _ _ _ _ _ r h (by show h.val / 2 = 1; omega) hp hc (fun d => ?_) ?_ (keys_at m c t) (values_at m c t) (start k0_pay1 k0_pay2 k0_pay3 rfl rfl rfl ⟨h.val % 2 * 128 + r.val, by omega⟩)
      · rw [pay59_apply, queries_at]
        refine congrArg _ (congrArg₂ (ix3 _) (Fin.ext ?_) (Fin.ext ?_))
        · show _ * 128 + (h.val % 2 * 128 + r.val) % 128 = _ * 128 + r.val; rw [hr]
        · show 512 + ((2 + (h.val % 2 * 128 + r.val) / 128) * 128 + d.val) = 512 + (h.val * 128 + d.val); omega
      · rw [pay60_apply]; unfold slope
        rcases (show h.val = 2 ∨ h.val = 3 by omega) with k | k
        · rw [if_pos (by show h.val % 2 * 128 + r.val < 128; omega), k]; norm_num
        · rw [if_neg (by show ¬ h.val % 2 * 128 + r.val < 128; omega), k]; norm_num

end Cert.Swa

end
-- ==== Proof.SwaRef.lean ====
/- The reference's attention, entry by entry. -/
module

public import proofs.«01_k».proof.Proof.SwaBand
public import proofs.«01_k».proof.Proof.Gen.ReferenceIdeal.Read
public import Idealize.ShloMosaic.Lib.KernelVsHost

@[expose] public section

set_option maxRecDepth 16384

noncomputable section

open Idealize.ShloMosaic Idealize.ShloMosaic.TcCoe Idealize.SL.Sem

namespace Cert.Swa

open Cert.ReferenceIdeal Cert.ReferenceIdeal.Read Cert.ReferenceIdeal.Facts

theorem gap_ref (n : Fin 16) (r : Fin 128) (k : Fin 256) : val_main_v55 (F := Ideal) (ix3 n r k) = gap n r k := by
  simp only [val_main_v55_apply, val_main_v54_apply, val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply, val_main_v40_apply,
    val_main_v39_apply, val_main_v38_apply, val_main_v37_apply, val_main_v36_apply, val_main_v35_apply, val_main_v34_apply, val_main_v33_apply, val_main_v32_apply, val_main_v31_apply,
    val_main_c_5_apply, val_main_c_6_apply, val_main_c_7_apply]
  rfl

theorem mask_ref (n : Fin 16) (r : Fin 128) (k : Fin 256) : val_main_v65 (F := Ideal) (ix3 n r k) = bandMask n r k := by
  unfold bandMask
  rw [← gap_ref]
  simp only [val_main_v65_apply, val_main_v64_apply, val_main_v63_apply, val_main_v62_apply, val_main_v61_apply, val_main_v60_apply, val_main_v59_apply, val_main_v58_apply, val_main_v57_apply, val_main_v56_apply,
    val_main_v50_apply, val_main_v49_apply, val_main_v48_apply,
    val_main_v47_apply, val_main_v46_apply, val_main_v45_apply, val_main_v44_apply, val_main_v43_apply, val_main_v42_apply, val_main_v41_apply, val_main_v40_apply,
    val_main_c_8_apply, val_main_c_9_apply, val_main_c_10_apply, val_main_c_6_apply, val_main_c_7_apply]
  rfl

theorem slope_ref (e : S4.Idx) (h : Fin 4) (he : (e 0).val = h.val) : val_main_v15 (F := Ideal) e = (slope h : EReal) := by
  simp only [val_main_v15_apply, val_main_v14_apply, val_main_v13_apply, val_main_v12_apply, val_main_v11_apply, val_main_v10_apply, val_main_v9_apply, val_main_v8_apply, val_main_v7_apply,
    val_main_cst_apply, val_main_cst_0_apply, val_main_cst_1_apply, val_main_cst_2_apply]
  have h6 : val_main_v6 (F := Ideal) (idx_main_v15 e) = ((h.val : ℝ) : EReal) := by
    unfold val_main_v6
    show (((BitVec.ofNat 32 (e 0).val).toInt : ℝ) : EReal) = _
    rw [he]
    have w : ∀ h : Fin 4, (BitVec.ofNat 32 h.val).toInt = (h.val : Int) := by decide
    rw [w h]; norm_cast
  rw [h6]
  show Ideal.pow (Ideal.ofBits .f32 0x40000000#32) (Ideal.div (Ideal.ofBits .f32 0xC1000000#32 * (Ideal.ofBits .f32 0x3F800000#32 + ((h.val : ℝ) : EReal))) (Ideal.ofBits .f32 0x41000000#32)) = _
  rw [bits_two, bits_neg_eight, bits_one, bits_eight]
  have n8 : ((8 : ℝ) : EReal) ≠ 0 := by exact_mod_cast (by norm_num : (8 : ℝ) ≠ 0)
  have ed : Ideal.div (((-8 : ℝ) : EReal) * (((1 : ℝ) : EReal) + ((h.val : ℝ) : EReal))) ((8 : ℝ) : EReal) = ((-((h.val + 1 : ℕ) : ℝ) : ℝ) : EReal) := by
    unfold Ideal.div
    rw [if_neg n8, ← EReal.coe_inv, ← EReal.coe_add, ← EReal.coe_mul, ← EReal.coe_mul]
    refine congrArg _ ?_
    push_cast; ring
  rw [ed, Ideal.pow_coe_coe]
  refine congrArg _ ?_
  show (2 : ℝ) ^ (-((h.val + 1 : ℕ) : ℝ)) = slope h
  unfold slope
  rw [Real.rpow_neg (by norm_num), Real.rpow_natCast, one_div, inv_pow]

theorem keys_ref (P : S4x2048x6656.Idx → EReal) (b : Fin 4) (n : Fin 16) (k : Fin 256) (g : Fin 2) (d : Fin 128) (h : n.val ≠ 0 ∨ 128 ≤ k.val) :
    val_main_v20 (F := Ideal) P (ix5 b n k g d) = P (ix3 b (posOf n k) ⟨5888 + (g.val * 128 + d.val), by omega⟩) := by
  unfold val_main_v20 val_main_v19 val_main_v18 val_main_v17 val_main_v16 val_main_v3 val_main_v2
  pointwise
  have hk := k.isLt
  have hn := n.isLt
  split
  · rw [dif_pos ⟨⟨by omega, by omega⟩, by omega⟩]
    exact congrArg P (congrArg₂ (ix3 b) (Fin.ext (by show _ = n.val * 128 + k.val - 128; dsimp only; omega)) (Fin.ext (by dsimp only)))
  · rw [dif_pos (by omega)]
    exact congrArg P (congrArg₂ (ix3 b) (Fin.ext (by show _ = n.val * 128 + k.val - 128; dsimp only; omega)) (Fin.ext (by dsimp only)))

theorem values_ref (P : S4x2048x6656.Idx → EReal) (b : Fin 4) (n : Fin 16) (k : Fin 256) (g : Fin 2) (d : Fin 128) (h : n.val ≠ 0 ∨ 128 ≤ k.val) :
    val_main_v25 (F := Ideal) P (ix5 b n k g d) = P (ix3 b (posOf n k) ⟨6144 + (g.val * 128 + d.val), by omega⟩) := by
  unfold val_main_v25 val_main_v24 val_main_v23 val_main_v22 val_main_v21 val_main_v5 val_main_v4
  pointwise
  have hk := k.isLt
  have hn := n.isLt
  split
  · rw [dif_pos ⟨⟨by omega, by omega⟩, by omega⟩]
    exact congrArg P (congrArg₂ (ix3 b) (Fin.ext (by show _ = n.val * 128 + k.val - 128; dsimp only; omega)) (Fin.ext (by dsimp only)))
  · rw [dif_pos (by omega)]
    exact congrArg P (congrArg₂ (ix3 b) (Fin.ext (by show _ = n.val * 128 + k.val - 128; dsimp only; omega)) (Fin.ext (by dsimp only)))

theorem queries_ref (P : S4x2048x6656.Idx → EReal) (b : Fin 4) (n : Fin 16) (r : Fin 128) (g u : Fin 2) (d : Fin 128) :
    val_main_v26 (F := Ideal) P (ix6 b n r g u d) = P (ix3 b ⟨n.val * 128 + r.val, by omega⟩ ⟨512 + ((g.val * 2 + u.val) * 128 + d.val), by omega⟩) := by
  unfold val_main_v26 val_main_v1 val_main_v0
  pointwise
  exact congrArg P (congrArg₂ (ix3 b) (Fin.ext (by dsimp only)) (Fin.ext (by dsimp only; omega)))

/-- The score of a place of the band, where the mask holds. -/
theorem score_ref (P : S4x2048x6656.Idx → EReal) (b : Fin 4) (g u : Fin 2) (n : Fin 16) (r : Fin 128) (k : Fin 256) (h : Fin 4) (hh : h.val = g.val * 2 + u.val)
    (hk : n.val ≠ 0 ∨ 128 ≤ k.val) : val_main_v74 (F := Ideal) P (ix6 b g u n r k) = bandScore P b n r h k := by
  have e28 : val_main_v28 (F := Ideal) P (ix6 b g u n r k) = product P b n r h k := by
    rw [val_main_v28_apply, val_main_v27_apply]
    refine Finset.sum_congr rfl fun d _ => ?_
    have el : lidx_main_v27 (idx_main_v28 (ix6 b g u n r k)) d = ix5 b n k g d := funext fun a => by
      match a with | ⟨0, _⟩ => rfl | ⟨1, _⟩ => rfl | ⟨2, _⟩ => rfl | ⟨3, _⟩ => rfl | ⟨4, _⟩ => rfl
    have er : ridx_main_v27 (idx_main_v28 (ix6 b g u n r k)) d = ix6 b n r g u d := funext fun a => by
      match a with | ⟨0, _⟩ => rfl | ⟨1, _⟩ => rfl | ⟨2, _⟩ => rfl | ⟨3, _⟩ => rfl | ⟨4, _⟩ => rfl | ⟨5, _⟩ => rfl
    rw [el, er, keys_ref P b n k g d hk, queries_ref, mul_comm]
    refine congrArg₂ (· * ·) (congrArg P (congrArg (ix3 b _) (Fin.ext ?_))) (congrArg P (congrArg (ix3 b _) (Fin.ext ?_))) <;> dsimp only <;> omega
  have e30 : val_main_v30 (F := Ideal) P (ix6 b g u n r k) = product P b n r h k * Ideal.ofBits .f32 0x3DB504F3#32 := by
    rw [val_main_v30_apply, e28]; rfl
  have e73 : val_main_v73 (F := Ideal) (ix6 b g u n r k) = (slope h : EReal) * FloatOps.sitofp (F := Ideal) .f32 (gap n r k) := by
    rw [val_main_v73_apply, val_main_v72_apply, val_main_v71_apply, val_main_v70_apply, val_main_v69_apply, val_main_v68_apply, val_main_v67_apply, val_main_v66_apply]
    refine congrArg₂ (α := EReal) (β := EReal) (· * ·) (slope_ref _ h ?_) ?_
    · rw [hh]; show (((g.val * 2 + u.val) * 1 + 0) * 1 + 0) * 1 + 0 = _; omega
    · rw [← gap_ref]
      exact congrArg (fun i => FloatOps.sitofp (F := Ideal) .f32 (val_main_v55 (F := Ideal) i)) (funext fun a => by
        match a with | ⟨0, _⟩ => rfl | ⟨1, _⟩ => rfl | ⟨2, _⟩ => rfl)
  rw [val_main_v74_apply, e30, e73]; rfl

/-- The masked score. -/
theorem logits_ref (P : S4x2048x6656.Idx → EReal) (b : Fin 4) (g u : Fin 2) (n : Fin 16) (r : Fin 128) (k : Fin 256) (h : Fin 4) (hh : h.val = g.val * 2 + u.val) :
    val_main_v75 (F := Ideal) P (ix6 b g u n r k) = if bandMask n r k = 1#1 then bandScore P b n r h k else ⊥ := by
  rw [val_main_v75_apply, val_main_call2_v1_apply, val_main_call2_v2_apply, val_main_call2_v0_apply, val_main_cst_11_apply]
  have ei : idx_main_call2_v1 (ix6 b g u n r k) = ix3 n r k := funext fun a => by
    match a with | ⟨0, _⟩ => rfl | ⟨1, _⟩ => rfl | ⟨2, _⟩ => rfl
  rw [ei, mask_ref]
  show (if bandMask n r k = 1#1 then _ else _) = _
  split
  · rename_i hc
    exact score_ref P b g u n r k h hh (mask_there n r k hc)
  · exact bits_bot

/-- The row the softmax is taken of: the masked scores, then the head's sink. -/
theorem row_any (P : S4x2048x6656.Idx → EReal) (S : S4.Idx → EReal) (b : Fin 4) (g u : Fin 2) (n : Fin 16) (r : Fin 128) (k : Fin 257) :
    val_main_v78 (F := Ideal) P S (ix6 b g u n r k)
      = if h : k.val < 256 then val_main_v75 (F := Ideal) P (ix6 b g u n r ⟨k.val, h⟩) else S (ix1 ⟨g.val * 2 + u.val, by omega⟩) := by
  unfold val_main_v78
  generalize val_main_v75 (F := Ideal) P = y
  have e : ∀ z : Fin 1, val_main_v77 (F := Ideal) S (ix6 b g u n r z) = S (ix1 ⟨g.val * 2 + u.val, by omega⟩) := fun z => by
    unfold val_main_v77 val_main_v76
    pointwise
  pointwise
  split
  · rfl
  · exact e _

theorem row_ref (P : S4x2048x6656.Idx → EReal) (S : S4.Idx → EReal) (b : Fin 4) (g u : Fin 2) (n : Fin 16) (r : Fin 128) (k : Fin 256) :
    val_main_v78 (F := Ideal) P S (ix6 b g u n r k.castSucc) = val_main_v75 (F := Ideal) P (ix6 b g u n r k) :=
  (row_any P S b g u n r k.castSucc).trans (dif_pos k.isLt)

theorem row_last (P : S4x2048x6656.Idx → EReal) (S : S4.Idx → EReal) (b : Fin 4) (g u : Fin 2) (n : Fin 16) (r : Fin 128) (h : Fin 4) (hh : h.val = g.val * 2 + u.val) :
    val_main_v78 (F := Ideal) P S (ix6 b g u n r (Fin.last 256)) = S (ix1 h) :=
  (row_any P S b g u n r (Fin.last 256)).trans ((dif_neg (lt_irrefl 256)).trans (congrArg S (congrArg ix1 (Fin.ext hh.symm))))

/-- The row's maximum. -/
theorem max_ref (P : S4x2048x6656.Idx → EReal) (S : S4.Idx → EReal) (b : Fin 4) (g u : Fin 2) (n : Fin 16) (r : Fin 128) :
    val_main_v81 (F := Ideal) P S (ix5 b g u n r)
      = max ⊥ (Finset.univ.fold max ⊥ fun k : Fin 257 => val_main_v78 (F := Ideal) P S (ix6 b g u n r k)) := by
  rw [val_main_v81_apply]
  refine congrArg₂ (α := EReal) (β := EReal) max bits_bot ?_
  unfold val_main_v79
  generalize val_main_v78 (F := Ideal) P S = y
  have key := Host.reduce_eq_fold_single (max : EReal → EReal → EReal) y (val_main_cst_12 (F := Ideal)) Gen.reducesTo_S4x2x2x16x128x257_S4x2x2x16x128_d5 (by decide) Gen.h_S_ (ix5 b g u n r)
  refine (show _ = _ from key).trans ?_
  have e0 : val_main_cst_12 (F := Ideal) (Shape.Idx.first Gen.h_S_) = (⊥ : EReal) := bits_bot
  rw [e0]
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- THE REFERENCE'S RESULT: the attention over the band, with the exponentials relative to the row's maximum. -/
theorem attended_ref (P : S4x2048x6656.Idx → EReal) (hP : RealInputs P) (S : S4.Idx → EReal) (σ : Fin 4 → ℝ) (hσ : ∀ h, S (ix1 h) = (σ h : EReal))
    (b : Fin 4) (n : Fin 16) (r : Fin 128) (h : Fin 4) (d : Fin 128) (t : Fin 2048) (ht : t.val = n.val * 128 + r.val) (e : Fin 512) (he : e.val = h.val * 128 + d.val) :
    ∃ ρ : ℝ, val_main_v94 (F := Ideal) P S (ix3 b t e) = attended P (σ h) b n r h d ρ := by
  obtain ⟨g, u, hh⟩ : ∃ g u : Fin 2, h.val = g.val * 2 + u.val := ⟨⟨h.val / 2, by omega⟩, ⟨h.val % 2, by omega⟩, by show h.val = h.val / 2 * 2 + h.val % 2; omega⟩
  have hz : ∀ k : Fin 256, val_main_v78 (F := Ideal) P S (ix6 b g u n r k.castSucc) = if bandMask n r k = 1#1 then bandScore P b n r h k else ⊥ := fun k =>
    (row_ref P S b g u n r k).trans (logits_ref P b g u n r k h hh)
  have hl : val_main_v78 (F := Ideal) P S (ix6 b g u n r (Fin.last 256)) = (σ h : EReal) := (row_last P S b g u n r h hh).trans (hσ h)
  obtain ⟨ρ, hρ⟩ : ∃ ρ : ℝ, val_main_v81 (F := Ideal) P S (ix5 b g u n r) = ρ := by
    rw [max_ref, max_eq_right bot_le]
    refine real_of_bounds _ (σ h) (hl ▸ le_fold Finset.univ ⊥ (fun k : Fin 257 => val_main_v78 (F := Ideal) P S (ix6 b g u n r k)) (Fin.last 256) (Finset.mem_univ _))
      (fold_ne_top _ _ bot_ne_top _ fun k => ?_)
    refine Fin.lastCases ?_ (fun k => ?_) k
    · rw [hl]; exact EReal.coe_ne_top _
    · rw [hz]
      split
      · obtain ⟨ξ, hξ⟩ := score_real P hP b n r h k
        rw [hξ]; exact EReal.coe_ne_top _
      · exact bot_ne_top
  refine ⟨ρ, ?_⟩
  have h85 : ∀ k : Fin 257, val_main_v85 (F := Ideal) P S (ix6 b g u n r k) = Ideal.exp (val_main_v78 (F := Ideal) P S (ix6 b g u n r k) - (ρ : EReal)) := fun k => by
    rw [val_main_v85_apply, val_main_v84_apply, val_main_v83_apply, val_main_v82_apply]
    have ei : idx_main_v82 (idx_main_v83 (ix6 b g u n r k)) = ix5 b g u n r := funext fun a => by
      match a with | ⟨0, _⟩ => rfl | ⟨1, _⟩ => rfl | ⟨2, _⟩ => rfl | ⟨3, _⟩ => rfl | ⟨4, _⟩ => rfl
    rw [ei, hρ]; rfl
  have hw : ∀ k : Fin 256, val_main_v85 (F := Ideal) P S (ix6 b g u n r k.castSucc) = weight (bandMask n r k) (bandScore P b n r h k) ρ := fun k => by
    rw [h85, hz]
    unfold weight
    split
    · rfl
    · rw [EReal.bot_sub]; rfl
  obtain ⟨L, hL0, hL⟩ := bandSum_real (band_real P hP b n r h) ρ
  have hD : val_main_v86 (F := Ideal) P S (ix5 b g u n r) = ((L + Real.exp (σ h - ρ) : ℝ) : EReal) := by
    rw [val_main_v86_apply]
    have e0 : val_main_cst_14 (F := Ideal) (Shape.Idx.first Gen.h_S_) = (0 : EReal) := bits_zero
    rw [e0, zero_add]
    have ei : ∀ k : Fin 257, idx_main_v86 (ix5 b g u n r) k = ix6 b g u n r k := fun k => funext fun a => by
      match a with | ⟨0, _⟩ => rfl | ⟨1, _⟩ => rfl | ⟨2, _⟩ => rfl | ⟨3, _⟩ => rfl | ⟨4, _⟩ => rfl | ⟨5, _⟩ => rfl
    simp only [ei]
    rw [Fin.sum_univ_castSucc (n := 256), Finset.sum_congr rfl fun k _ => hw k, h85, hl, exp_sub_real, EReal.coe_add, ← hL]
    rfl
  have h90 : ∀ k : Fin 256, val_main_v90 (F := Ideal) P S (ix6 b g u n r k) = Ideal.div (weight (bandMask n r k) (bandScore P b n r h k) ρ) ((L + Real.exp (σ h - ρ) : ℝ) : EReal) := fun k => by
    rw [val_main_v90_apply, val_main_v89_apply, val_main_v88_apply, val_main_v87_apply]
    have ei : idx_main_v90 (ix6 b g u n r k) = ix6 b g u n r k.castSucc := funext fun a => by
      match a with | ⟨0, _⟩ => rfl | ⟨1, _⟩ => rfl | ⟨2, _⟩ => rfl | ⟨3, _⟩ => rfl | ⟨4, _⟩ => rfl | ⟨5, _⟩ => rfl
    have ej : idx_main_v87 (idx_main_v88 (ix6 b g u n r k.castSucc)) = ix5 b g u n r := funext fun a => by
      match a with | ⟨0, _⟩ => rfl | ⟨1, _⟩ => rfl | ⟨2, _⟩ => rfl | ⟨3, _⟩ => rfl | ⟨4, _⟩ => rfl
    rw [ei, hw, ej, hD]; rfl
  have h94 : val_main_v94 (F := Ideal) P S (ix3 b t e) = val_main_v92 (F := Ideal) P S (ix6 b n r g u d) := by
    rw [val_main_v94_apply]
    show val_main_v93 (F := Ideal) P S (ix3 b t e) = _
    unfold val_main_v93
    generalize val_main_v92 (F := Ideal) P S = y
    refine shapeCast_apply y _ (ix3 b t e) (ix6 b n r g u d) ?_
    rewrite [Shape.rowMajor_val_six, Shape.rowMajor_val_three]
    show ((((b.val * 16 + n.val) * 128 + r.val) * 2 + g.val) * 2 + u.val) * 128 + d.val = (b.val * 2048 + t.val) * 512 + e.val
    omega
  have ei : idx_main_v92 (ix6 b n r g u d) = ix6 b n g d u r := funext fun a => by
    match a with | ⟨0, _⟩ => rfl | ⟨1, _⟩ => rfl | ⟨2, _⟩ => rfl | ⟨3, _⟩ => rfl | ⟨4, _⟩ => rfl | ⟨5, _⟩ => rfl
  have el : ∀ k : Fin 256, lidx_main_v91 (ix6 b n g d u r) k = ix5 b n k g d := fun k => funext fun a => by
    match a with | ⟨0, _⟩ => rfl | ⟨1, _⟩ => rfl | ⟨2, _⟩ => rfl | ⟨3, _⟩ => rfl | ⟨4, _⟩ => rfl
  have er : ∀ k : Fin 256, ridx_main_v91 (ix6 b n g d u r) k = ix6 b g u n r k := fun k => funext fun a => by
    match a with | ⟨0, _⟩ => rfl | ⟨1, _⟩ => rfl | ⟨2, _⟩ => rfl | ⟨3, _⟩ => rfl | ⟨4, _⟩ => rfl | ⟨5, _⟩ => rfl
  rw [h94, val_main_v92_apply, ei, val_main_v91_apply]
  simp only [el, er, h90]
  refine (sum_div (fun k => weight (bandMask n r k) (bandScore P b n r h k) ρ) (fun k => val_main_v25 (F := Ideal) P (ix5 b n k g d))
    (fun k => weight_real _ _ (band_real P hP b n r h k) ρ) _ (by positivity)).trans ?_
  unfold attended quotient
  rw [hL, exp_sub_real, ← EReal.coe_add]
  refine congrArg (Ideal.div · _) ?_
  unfold bandAcc
  refine Finset.sum_congr rfl fun k _ => ?_
  by_cases hc : bandMask n r k = 1#1
  · rw [values_ref P b n k g d (mask_there n r k hc)]
    refine congrArg (_ * ·) (congrArg P (congrArg (ix3 b _) (Fin.ext ?_)))
    show 6144 + (g.val * 128 + d.val) = 6144 + (h.val / 2 * 128 + d.val); omega
  · have w0 : weight (bandMask n r k) (bandScore P b n r h k) ρ = 0 := if_neg hc
    simp only [w0, zero_mul]

end Cert.Swa

end
-- ==== Proof.SwaPre.lean ====
/- What the precondition of the attention says: the queries, the keys and the sinks are real numbers. -/
module

public import proofs.«01_k».proof.Proof.SwaBand
public import proofs.«01_k».proof.Defs
public import proofs.«01_k».proof.Proof.Gen.Pre_finite_scores
public import Idealize.ShloMosaic.Lib.ReduceAll
public import Idealize.ShloMosaic.Lib.WordCmp

@[expose] public section

set_option maxRecDepth 16384

noncomputable section

open Idealize.ShloMosaic Idealize.ShloMosaic.TcCoe Idealize.SL.Sem

namespace Cert.Swa

/-- A number whose absolute value is below infinity is real. -/
theorem real_of_below (x y : EReal) (hy : y = ⊤) (h : (FloatOps.cmpf (F := Ideal) (φ := .f32) .olt (max x (-x)) y) = 1#1) : ∃ ξ : ℝ, x = ξ := by
  subst hy
  have hlt : max x (-x) < ⊤ := by
    by_contra c
    have e : FloatOps.cmpf (F := Ideal) (φ := .f32) .olt (max x (-x)) (⊤ : EReal) = 0#1 := by
      show Ideal.cmp .olt (max x (-x)) ⊤ = 0#1
      unfold Ideal.cmp
      simp [c]
    rw [e] at h
    exact absurd h (by decide)
  have ht : x ≠ ⊤ := fun e => by rw [e] at hlt; simp at hlt
  have hb : x ≠ ⊥ := fun e => by rw [e] at hlt; simp at hlt
  exact ⟨x.toReal, (EReal.coe_toReal ht hb).symm⟩

theorem bits_top : (Ideal.ofBits .f32 0x7F800000#32 : EReal) = ⊤ := by
  simp [Ideal.ofBits, Ideal.ieee]

/-- The precondition, said of the arrays. -/
theorem real_of_pre (P : Cert.KernelIdeal.S4x2048x6656.Idx → EReal) (S : Cert.KernelIdeal.S4.Idx → EReal)
    (h : Cert.Pre_finite_scores.fn (F := Ideal) P S = fun _ => 1#1) : RealInputs P ∧ ∃ σ : Fin 4 → ℝ, ∀ h, S (ix1 h) = (σ h : EReal) := by
  have h' := congrFun h (fun a => a.elim0)
  obtain ⟨h1, hs⟩ := IntOp.andi_eq_one.1 h'
  obtain ⟨hq, hk⟩ := IntOp.andi_eq_one.1 h1
  refine ⟨⟨fun b t e => ?_, fun b t e => ?_⟩, ?_⟩
  · have hj := Host.reduce_andi_all (t := Cert.Pre_finite_scores.S_) (hu := Cert.Pre_finite_scores.Facts.h_S_) _ _ _ (fun a => a.elim0) hq (ix3 b t e)
    refine real_of_below (P (ix3 b t ⟨512 + e.val, by omega⟩)) ⊤ rfl ?_
    rw [← hj, ← bits_top]
    refine congrArg (fun z => FloatOps.cmpf (F := Ideal) (φ := .f32) .olt (max z (-z)) _) ?_
    have hs := extractStridedSlice_apply ![0, 0, 512] P Cert.Pre_finite_scores.Facts.slices_S4x2048x6656_S4x2048x512_0_0_512 (ix3 b t e) (ix3 b t ⟨512 + e.val, by omega⟩) (fun a => match a with
      | ⟨0, _⟩ => by show b.val = 0 + b.val; omega
      | ⟨1, _⟩ => by show t.val = 0 + t.val; omega
      | ⟨2, _⟩ => by show 512 + e.val = 512 + e.val; omega)
    exact hs.symm
  · have hj := Host.reduce_andi_all (t := Cert.Pre_finite_scores.S_) (hu := Cert.Pre_finite_scores.Facts.h_S_) _ _ _ (fun a => a.elim0) hk (ix3 b t e)
    refine real_of_below (P (ix3 b t ⟨5888 + e.val, by omega⟩)) ⊤ rfl ?_
    rw [← hj, ← bits_top]
    refine congrArg (fun z => FloatOps.cmpf (F := Ideal) (φ := .f32) .olt (max z (-z)) _) ?_
    have hs := extractStridedSlice_apply ![0, 0, 5888] P Cert.Pre_finite_scores.Facts.slices_S4x2048x6656_S4x2048x256_0_0_5888 (ix3 b t e) (ix3 b t ⟨5888 + e.val, by omega⟩) (fun a => match a with
      | ⟨0, _⟩ => by show b.val = 0 + b.val; omega
      | ⟨1, _⟩ => by show t.val = 0 + t.val; omega
      | ⟨2, _⟩ => by show 5888 + e.val = 5888 + e.val; omega)
    exact hs.symm
  · have hr : ∀ h : Fin 4, ∃ ξ : ℝ, S (ix1 h) = ξ := fun h => by
      have hj := Host.reduce_andi_all (t := Cert.Pre_finite_scores.S_) (hu := Cert.Pre_finite_scores.Facts.h_S_) _ _ _ (fun a => a.elim0) hs (ix1 h)
      exact real_of_below (S (ix1 h)) _ bits_top hj
    choose σ hσ using hr
    exact ⟨σ, hσ⟩

end Cert.Swa

end
-- ==== Proof.SwaClaim.lean ====
/- The value claim of the attention: under the precondition both programs end at the reference's term of the arguments. -/
module

public import proofs.«01_k».proof.Defs
public import proofs.«01_k».proof.Proof.SwaKernel
public import proofs.«01_k».proof.Proof.SwaRef
public import proofs.«01_k».proof.Proof.SwaPre
public import proofs.«01_k».proof.Proof.Gen.KernelIdeal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Swa

open Cert.KernelIdeal Cert.KernelIdeal.Gen Cert.KernelIdeal.Facts

variable (m : (ℓ : Loc nD τ sig) → Buf (Elt Ideal) ℓ)

/-- An entry of a block the kernel stores is the reference's entry at its place in the array. -/
theorem entry (c : Dev nD) (t : Fin cfg0.N) (hP : RealInputs (m ((c : Thread nD τ).loc main_arg0))) (σ : Fin 4 → ℝ)
    (hσ : ∀ h, m ((c : Thread nD τ).loc main_arg1) (ix1 h) = (σ h : EReal)) (r : Fin 128) (e : Fin 512) (s : Fin 2048) (hs : s.val = t.val % 16 * 128 + r.val) :
    outsAt0 (F := Ideal) m c t (ix3 0 r e)
      = Cert.ReferenceIdeal.Read.val_main_v94 (F := Ideal) (m ((c : Thread nD τ).loc main_arg0)) (m ((c : Thread nD τ).loc main_arg1)) (ix3 (batchOf t) s e) := by
  have he : e.val = (⟨e.val / 128, by omega⟩ : Fin 4).val * 128 + (⟨e.val % 128, by omega⟩ : Fin 128).val := by show e.val = e.val / 128 * 128 + e.val % 128; omega
  obtain ⟨ρ, hρ⟩ := attended_ref (m ((c : Thread nD τ).loc main_arg0)) hP (m ((c : Thread nD τ).loc main_arg1)) σ hσ (batchOf t) (blockOf t) r ⟨e.val / 128, by omega⟩ ⟨e.val % 128, by omega⟩ s hs e he
  rw [hρ]
  exact stored m c t hP σ hσ r _ _ e he ρ

/-- The result array after the run is the reference's term. -/
theorem final (c : Dev nD) (hP : RealInputs (m ((c : Thread nD τ).loc main_arg0))) (σ : Fin 4 → ℝ)
    (hσ : ∀ h, m ((c : Thread nD τ).loc main_arg1) (ix1 h) = (σ h : EReal)) :
    (dats m 0 c).arrAt 4 (cfgs 0).N
      = Cert.ReferenceIdeal.Read.val_main_v94 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  have hy0 : (y 0).val < 1 := (y 0).isLt
  have hy : y = ix3 0 (y 1) (y 2) := funext fun a => Fin.ext (by match a with | ⟨0, _⟩ => exact Nat.lt_one_iff.1 hy0 | ⟨1, _⟩ => rfl | ⟨2, _⟩ => rfl)
  rw [hy]
  refine (entry m c t hP σ hσ (y 1) (y 2) ⟨t.val % 16 * 128 + (y 1).val, by have h : (y 1).val < 128 := (y 1).isLt; omega⟩ rfl).trans ?_
  unfold batchOf
  blk_ext [idx t]

/-- The kernel's and the reference's results are equal for equal arguments. -/
theorem algebraic [Cert.Pre_finite_scores.Facts] : Cert.algebraic_KernelIdeal_ReferenceIdeal_pre_finite_scores := by
  intro m g m' g' hpre hagree
  refine ⟨fun c => Cert.ReferenceIdeal.Read.val_main_v94 (F := Ideal) (m ((c.tc : Thread nD τ).loc main_arg0)) (m ((c.tc : Thread nD τ).loc main_arg1)), ?_, ?_⟩
  · refine (θ_run _ _ _).mono (fun r h c => ?_) (Cert.KernelIdeal.Value.run_blocks m g)
    obtain ⟨hP, σ, hσ⟩ := real_of_pre (m ((c.tc : Thread nD τ).loc main_arg0)) (m ((c.tc : Thread nD τ).loc main_arg1)) (hpre c)
    have hf := final m c hP σ hσ
    obtain ⟨h0, h1⟩ := h c
    refine ⟨?_, h1⟩
    rw [h0]
    exact hf
  · refine (θ_run _ _ _).mono (fun r h c => ?_) (Cert.ReferenceIdeal.Value.run m' g')
    obtain ⟨h0, h1⟩ := h c
    obtain ⟨a0, a1⟩ := hagree c
    refine ⟨?_, h1⟩
    rw [h0, Cert.ReferenceIdeal.Read.val_main_v94_eq, a0, a1]

/-- The reference terminates and leaves its arguments unchanged. -/
theorem quiescent : Cert.quiescent_ReferenceIdeal := by
  intro m g _
  exact (θ_run _ _ _).mono (fun r h => ⟨fun c => (h c).2, sem_eq_zero_of_no_sems rfl r.2⟩) (Cert.ReferenceIdeal.Value.run m g)

/-- The same under the precondition. -/
theorem quiescent_finite [Cert.Pre_finite_scores.Facts] : Cert.quiescent_ReferenceIdeal_pre_finite_scores := by
  intro m g _
  exact (θ_run _ _ _).mono (fun r h => ⟨fun c => (h c).2, sem_eq_zero_of_no_sems rfl r.2⟩) (Cert.ReferenceIdeal.Value.run m g)

end Cert.Swa

end
-- ==== Proof.MoeBody.lean ====
/- The expert feed-forward's kernel body at one grid point: from the blocks and whatever the result block held, it leaves the
   result block zeroed, extended by a tile's product and gated, each under its own condition. -/
module

public import proofs.«01_k».proof.Proof.Gen.Kernel2.Skeleton
public import proofs.«01_k».proof.Proof.Gen.Kernel2.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.VecWindow
public import Idealize.ShloMosaic.Lib.Exec
public import Idealize.ShloMosaic.Lib.Tactic
public import Idealize.ShloMosaic.PureOps.BitExact
public import Idealize.ShloMosaic.Adequacy
public import Idealize.ShloMosaic.Init

@[expose] public section

set_option maxRecDepth 16384

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Bits) ℕ (UR sig nD τ) ℕ

/-- The two tables as the body is handed them: the block's expert, and the number of used blocks. -/
abbrev tb0 : Memref sig .tc .smem S24 .i32 := Memref.whole main_arg2
abbrev tb1 : Memref sig .tc .smem S1 .i32 := Memref.whole main_arg3

/-- The number of used blocks as the body loads it. -/
abbrev word (T1 : S1.Idx → Elt Bits .i32) : Elt Bits .i32 :=
  View.readAt (Elt Bits) tb1.view (Rect.unit (s := S1) ![0] S1.size inb_S1_S1_0).toLoadRect T1 (Shape.Idx.first (numel1_S1.symm ▸ Nat.one_pos))

/-- What the result block holds after the body, from what it held: zeroed at the first tile, extended in a used block, gated
    after a used block's last tile. -/
def step (i : grid0.Coords) (n : Elt Bits .i32) (x0 : Vec Bits S1024x2048 .bf16) (x1 : Vec Bits S1024x1 .f32) (x2 x3 : Vec Bits S1x2048x256 .f32)
    (x4 : Vec Bits S1x256x2048 .f32) (xo : Vec Bits S1024x2048 .f32) : Vec Bits S1024x2048 .f32 :=
  let a := if k0_cond1 i = 1#1 then k0_pay1 (F := Bits) else xo
  let b := if k0_cond2 i n = 1#1 then k0_pay2 (F := Bits) a x0 x2 x3 x4 else a
  if k0_cond3 i n = 1#1 then k0_pay3 (F := Bits) b x1 else b

set_option maxHeartbeats 1000000 in
/-- The body's run at any grid point and any tables. -/
theorem body (c : Dev nD) (i : grid0.Coords) (arg4 : Memref sig .tc .vmem S1024x2048 .bf16) (harg4 : arg4.IsWhole) (arg5 : Memref sig .tc .vmem S1024x1 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole)
    (T0 : S24.Idx → Elt Bits .i32) (T1 : S1.Idx → Elt Bits .i32)
    (x0 : S1024x2048.Idx → Elt Bits .bf16) (x1 : S1024x1.Idx → Elt Bits .f32) (x2 x3 : S1x2048x256.Idx → Elt Bits .f32)
    (x4 : S1x256x2048.Idx → Elt Bits .f32) (xo : S1024x2048.Idx → Elt Bits .f32) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (tb0.view.loc (c : Thread nD τ) ↦{fullShare.right} T0)
      ∗ (tb1.view.loc (c : Thread nD τ) ↦{fullShare.right} T1)
      ∗ owns (c : Thread nD τ) arg9 fullShare xo
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tb0.view.loc (c : Thread nD τ) ↦{fullShare.right} T0)
          ∗ (tb1.view.loc (c : Thread nD τ) ↦{fullShare.right} T1)
          ∗ owns (c : Thread nD τ) arg9 fullShare (step i (word T1) x0 x1 x2 x3 x4 xo)) -∗ K ⟨⟩))
      ⊢ wp frame (wpE (defs₀ (F := Bits)) Variants.none c none) Set.univ (cc0_moe_ffn i tb0 (Memref.isWhole_whole _) tb1 (Memref.isWhole_whole _) arg4 harg4 arg5 harg5 arg6 harg6 arg7 harg7 arg8 harg8 arg9 harg9) K := by
  unfold owns
  rw [cc0_moe_ffn_eq_skeleton]; unfold cc0_moe_ffn_skel
  iintro ⟨H0, H1, H2, H3, H4, HT0, HT1, ⟨%f5, %hf5, HO5⟩, Hk⟩
  obtain rfl := harg9.eq_unread hf5
  have hT0 : tb0.IsWhole := Memref.isWhole_whole _
  have hT1 : tb1.IsWhole := Memref.isWhole_whole _
  by_cases h1 : k0_cond1 i = 1#1 <;> by_cases h2 : k0_cond2 i (word T1) = 1#1 <;> by_cases h3 : k0_cond3 i (word T1) = 1#1
  all_goals
    sl_exec! (disch := first | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; isplitr; swap
    · iexact HO5
    · ipureintro
      simp only [step, h1, h2, h3, if_true, if_false, ite_true, ite_false]
      frame_out
      try simp only [View.read_rep]

end Cert.Kernel2.Moe

end
-- ==== Proof.MoeFrame.lean ====
/- The expert feed-forward's kernel at any admissible tables: the result block's contents point by point, the body's
   obligation at every point, and the run of the whole program. -/
module

public import proofs.«01_k».proof.Proof.MoeBody
public import Idealize.ShloMosaic.Lib.Pipeline.Quiescent
public import Idealize.ShloMosaic.Lib.Claim
public import Idealize.ShloMosaic.Lib.Ring
public import Idealize.ShloMosaic.Lib.Affine

@[expose] public section

set_option maxRecDepth 16384

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev EP : Emb (UR sig nD τ) 𝕄 := emb₁

variable (a : (pcfg0 (F := Bits)).Adm)
variable (m : (ℓ : Loc nD τ sig) → Buf (Elt Bits) ℓ) (ρ : Dev nD → PrngReg)

abbrev cfgT : Pipeline.Cfg sig Λ₀ := cfg0 (F := Bits) a
abbrev pcsT : Fin 1 → Pipeline.Cfg sig Λ₀ := Pipeline.pin (pcfgs (F := Bits)) fun _ => a

/-- The memory's tables are the ones the pipeline runs at. -/
def Tabled : Prop := ∀ (c : Dev nD) (j : Fin 2), m ((c : Thread nD τ).loc (pre0.ref j)) = a.1 j

abbrev pt (t : Fin (cfgT a).N) : grid0.Coords := (cfgT a).grid.coords t

abbrev st0 (t : Fin (cfgT a).N) : Memref sig .tc .vmem S1024x2048 .bf16 := spec0_0.stage ((cfgT a).slots t (0 : Fin 6))
abbrev wh0 (t : Fin (cfgT a).N) : (st0 a t).IsWhole := hstage0_0 (((cfgT a).slots t (0 : Fin 6)).cast nbuf0_0)
abbrev st1 (t : Fin (cfgT a).N) : Memref sig .tc .vmem S1024x1 .f32 := spec0_1.stage ((cfgT a).slots t (1 : Fin 6))
abbrev wh1 (t : Fin (cfgT a).N) : (st1 a t).IsWhole := hstage0_1 (((cfgT a).slots t (1 : Fin 6)).cast nbuf0_1)
abbrev st2 (t : Fin (cfgT a).N) : Memref sig .tc .vmem S1x2048x256 .f32 := spec0_2.stage ((cfgT a).slots t (2 : Fin 6))
abbrev wh2 (t : Fin (cfgT a).N) : (st2 a t).IsWhole := hstage0_2 (((cfgT a).slots t (2 : Fin 6)).cast nbuf0_2)
abbrev st3 (t : Fin (cfgT a).N) : Memref sig .tc .vmem S1x2048x256 .f32 := spec0_3.stage ((cfgT a).slots t (3 : Fin 6))
abbrev wh3 (t : Fin (cfgT a).N) : (st3 a t).IsWhole := hstage0_3 (((cfgT a).slots t (3 : Fin 6)).cast nbuf0_3)
abbrev st4 (t : Fin (cfgT a).N) : Memref sig .tc .vmem S1x256x2048 .f32 := spec0_4.stage ((cfgT a).slots t (4 : Fin 6))
abbrev wh4 (t : Fin (cfgT a).N) : (st4 a t).IsWhole := hstage0_4 (((cfgT a).slots t (4 : Fin 6)).cast nbuf0_4)
abbrev st5 (t : Fin (cfgT a).N) : Memref sig .tc .vmem S1024x2048 .f32 := spec0_5.stage ((cfgT a).slots t (5 : Fin 6))
abbrev wh5 (t : Fin (cfgT a).N) : (st5 a t).IsWhole := hstage0_5 (((cfgT a).slots t (5 : Fin 6)).cast nbuf0_5)

/-- Window `w`'s block at point `t`, as its array holds it at launch. -/
def iblk (c : Dev nD) (w : Fin (cfgT a).W) (t : Fin (cfgT a).N) : (((cfgT a).win w).xblock (pt a t)).Idx → Elt Bits ((cfgT a).win w).elt :=
  (((cfgT a).win w).blk t).view.read (Elt Bits) ((s₀ m ρ).mem (((cfgT a).win w).arr.view.loc (c : Thread nD τ)))

/-! ## The schedule: the result's block is new at each run's first tile, written back after its last -/

theorem first_tile : ∀ t : Fin grid0.N, (k0_cond1 (grid0.coords t) = 1#1) ↔ t.val % 28 = 0 := by decide +kernel

theorem leaves : ∀ t : Fin grid0.N, Window.flushOf grid0 true (fun i => cc0_transform_5 i) t = decide (t.val % 28 = 27) := by decide +kernel

theorem flush5 (t : Fin (cfgT a).N) : ((cfgT a).win (5 : Fin 6)).flush t = decide (t.val % 28 = 27) := leaves t

theorem word_table : (a.1.atD 1 ![0] : Elt Bits .i32) = word (a.1 1) := by
  unfold Pipeline.Prefetch.Contents.atD
  rw [dif_pos (by decide)]
  exact congrArg (a.1 1) (funext fun d => Fin.ext (by fin_cases d; rfl))

theorem idle5 (t : Fin (cfgT a).N) (h : (cfgT a).idle (5 : Fin 6) (pt a t) = true) :
    k0_cond1 (pt a t) ≠ 1#1 ∧ k0_cond2 (pt a t) (word (a.1 1)) ≠ 1#1 ∧ k0_cond3 (pt a t) (word (a.1 1)) ≠ 1#1 := by
  have h' : (!(k0_cond1 (pt a t) == 1#1) && !(k0_cond2 (pt a t) (a.1.atD 1 ![0]) == 1#1) && !(k0_cond3 (pt a t) (a.1.atD 1 ![0]) == 1#1)) = true := h
  rw [word_table] at h'
  simpa [and_assoc] using h'

theorem fresh5 (t : Fin (cfgT a).N) : (cfgT a).fresh (5 : Fin 6) t.val = decide (t.val % 28 = 0) :=
  Pipeline.Cfg.fresh_tab (cfgT a) (5 : Fin 6) (fun n => decide (n % 28 = 0)) rfl (fun t => by
    rw [flush5]
    by_cases h0 : t.val % 28 = 0
    · have hi : (cfgT a).idle (5 : Fin 6) ((cfgT a).grid.coords t) = false := by
        rw [← Bool.not_eq_true]
        exact fun h => (idle5 a t h).1 ((first_tile t).2 h0)
      rw [hi, Bool.false_and, Bool.or_false]
      exact decide_eq_decide.2 (by omega)
    · rw [decide_eq_false h0, Bool.and_false, Bool.or_false]
      exact decide_eq_decide.2 (by omega)) t.val (Nat.le_of_lt t.isLt)

/-! ## What the result's block holds after each point -/

abbrev stepAt (c : Dev nD) (t : Fin (cfgT a).N) (xo : S1024x2048.Idx → Elt Bits .f32) : S1024x2048.Idx → Elt Bits .f32 :=
  step (pt a t) (word (a.1 1)) (iblk a m ρ c (0 : Fin 6) t) (iblk a m ρ c (1 : Fin 6) t) (iblk a m ρ c (2 : Fin 6) t)
    (iblk a m ρ c (3 : Fin 6) t) (iblk a m ρ c (4 : Fin 6) t) xo

def held (c : Dev nD) : (n : ℕ) → n < (cfgT a).N → (S1024x2048.Idx → Elt Bits .f32)
  | 0, h => stepAt a m ρ c ⟨0, h⟩ default
  | n + 1, h => stepAt a m ρ c ⟨n + 1, h⟩ (held c n (Nat.lt_of_succ_lt h))

def before (c : Dev nD) (t : Fin (cfgT a).N) : S1024x2048.Idx → Elt Bits .f32 :=
  if h : t.val = 0 then default else held a m ρ c (t.val - 1) (by omega)

theorem held_eq (c : Dev nD) (t : Fin (cfgT a).N) : held a m ρ c t.val t.isLt = stepAt a m ρ c t (before a m ρ c t) := by
  obtain ⟨n, hn⟩ := t
  cases n with
  | zero => rfl
  | succ n => unfold before; simp only [Nat.add_one_ne_zero, dif_neg, not_false_eq_true]; rfl

/-- At a run's first tile the result's block is zeroed, whatever it held. -/
theorem step_first (i : grid0.Coords) (n x0 x1 x2 x3 x4 xo xo') (h : k0_cond1 i = 1#1) :
    step i n x0 x1 x2 x3 x4 xo = step i n x0 x1 x2 x3 x4 xo' := by
  unfold step; simp only [h, if_true]

/-- Where no condition holds the block keeps what it held. -/
theorem step_idle (i : grid0.Coords) (n x0 x1 x2 x3 x4 xo) (h1 : k0_cond1 i ≠ 1#1) (h2 : k0_cond2 i n ≠ 1#1) (h3 : k0_cond3 i n ≠ 1#1) :
    step i n x0 x1 x2 x3 x4 xo = xo := by
  unfold step; simp only [h1, h2, h3, if_false]

/-! ## The pipeline's proof data -/

def Inv (c : Dev nD) : sProp 𝕄 :=
  iprop((tb0.view.loc (c : Thread nD τ) ↦{fullShare.right} a.1 0) ∗ (tb1.view.loc (c : Thread nD τ) ↦{fullShare.right} a.1 1))

def dats (_ : Fin 1) (c : Dev nD) : Dat τ (Elt Bits) Unit ℕ (UR sig nD τ) ℕ (cfgT a) c where
  A w := (s₀ m ρ).mem (((cfgT a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => held a m ρ c t.val t.isLt
  Φ _ := Inv a c
  q _ := fullShare
  owed _ := 0

theorem after0 (c : Dev nD) (t : Fin (cfgT a).N) : (dats a m ρ 0 c).after (0 : Fin 6) t = iblk a m ρ c (0 : Fin 6) t := rfl
theorem after1 (c : Dev nD) (t : Fin (cfgT a).N) : (dats a m ρ 0 c).after (1 : Fin 6) t = iblk a m ρ c (1 : Fin 6) t := rfl
theorem after2 (c : Dev nD) (t : Fin (cfgT a).N) : (dats a m ρ 0 c).after (2 : Fin 6) t = iblk a m ρ c (2 : Fin 6) t := rfl
theorem after3 (c : Dev nD) (t : Fin (cfgT a).N) : (dats a m ρ 0 c).after (3 : Fin 6) t = iblk a m ρ c (3 : Fin 6) t := rfl
theorem after4 (c : Dev nD) (t : Fin (cfgT a).N) : (dats a m ρ 0 c).after (4 : Fin 6) t = iblk a m ρ c (4 : Fin 6) t := rfl
theorem after5 (c : Dev nD) (t : Fin (cfgT a).N) : (dats a m ρ 0 c).after (5 : Fin 6) t = held a m ρ c t.val t.isLt := rfl

theorem before0 (c : Dev nD) (t : Fin (cfgT a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgT a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgT a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgT a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgT a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after4]; unfold Dat.blockOf iblk; rfl) t d).trans
    (by unfold Dat.fetched Dat.blockOf iblk; rfl)

theorem stays (c : Dev nD) (t : Fin (cfgT a).N) (hi : (cfgT a).idle (5 : Fin 6) (pt a t) = true) :
    held a m ρ c t.val t.isLt = before a m ρ c t := by
  obtain ⟨h1, h2, h3⟩ := idle5 a t hi
  rw [held_eq, stepAt, step_idle _ _ _ _ _ _ _ _ h1 h2 h3]

theorem before5 (c : Dev nD) (t : Fin (cfgT a).N) (d) :
    (dats a m ρ 0 c).before (5 : Fin 6) t d = if t.val % 28 = 0 then d else before a m ρ c t := by
  rw [(dats a m ρ 0 c).before_out_traj (5 : Fin 6) rfl (fun _ _ => rfl) (fun t ht hi _ => by
    rw [after5, after5, stays a m ρ c t hi]; unfold before; rw [dif_neg ht]) t.val t rfl d, fresh5]
  by_cases h : t.val % 28 = 0
  · simp only [h, decide_true, if_true]
  · have h0 : t.val ≠ 0 := fun h0 => h (by rw [h0])
    simp only [h, decide_false, if_false, Bool.false_eq_true, after5]; unfold before; rw [dif_neg h0]

/-! ## The body's obligation -/

abbrev bodyAt (t : Fin (cfgT a).N) : Prog (TpuEff nD τ sig (Elt Bits) Λ₀ .tc) PUnit :=
  cc0_moe_ffn (pt a t) (Memref.whole main_arg2) (Memref.isWhole_whole _) (Memref.whole main_arg3) (Memref.isWhole_whole _) (st0 a t) (wh0 a t) (st1 a t) (wh1 a t) (st2 a t) (wh2 a t) (st3 a t) (wh3 a t) (st4 a t) (wh4 a t) (st5 a t) (wh5 a t)

/-- The body at a point leaves the result's block at what `held` says, from what it held before. -/
theorem leaves_held (c : Dev nD) (t : Fin (cfgT a).N) (d) :
    stepAt a m ρ c t ((dats a m ρ 0 c).before (5 : Fin 6) t d) = held a m ρ c t.val t.isLt := by
  rw [before5, held_eq]
  by_cases h : t.val % 28 = 0
  · exact step_first _ _ _ _ _ _ _ _ _ ((first_tile t).2 h)
  · rw [if_neg h]

/-- What is handed back of the result's block, in each of the cases the pipeline tells apart. -/
theorem handed (c : Dev nD) (t : Fin (cfgT a).N) :
    owns (c : Thread nD τ) (st5 a t) fullShare (held a m ρ c t.val t.isLt)
      ⊢ (match (cfgT a).idle (5 : Fin 6) ((cfgT a).grid.coords t) with
          | true =>
            match ((cfgT a).win (5 : Fin 6)).flush t with
            | false => iprop(∃ d, owns (c : Thread nD τ) (((cfgT a).win (5 : Fin 6)).stage ((cfgT a).slots t (5 : Fin 6))) fullShare ((dats a m ρ 0 c).before (5 : Fin 6) t d))
            | true => owns (c : Thread nD τ) (((cfgT a).win (5 : Fin 6)).stage ((cfgT a).slots t (5 : Fin 6))) fullShare ((dats a m ρ 0 c).after (5 : Fin 6) t)
          | false => owns (c : Thread nD τ) (((cfgT a).win (5 : Fin 6)).stage ((cfgT a).slots t (5 : Fin 6))) fullShare ((dats a m ρ 0 c).after (5 : Fin 6) t) : sProp 𝕄) := by
  cases hi : (cfgT a).idle (5 : Fin 6) ((cfgT a).grid.coords t)
  · exact .rfl
  · cases hf : ((cfgT a).win (5 : Fin 6)).flush t
    · iintro H
      iexists default
      rw [before5, if_neg fun h => (idle5 a t hi).1 ((first_tile t).2 h), ← stays a m ρ c t hi]
      iexact H
    · exact .rfl

set_option maxHeartbeats 4000000 in
theorem sound_body (c : Dev nD) (t : Fin (cfgT a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := Bits)) Variants.none c none) Set.univ (bodyAt a t) fun _ =>
          iprop((dats a m ρ 0 c).Φ t.succ ∗ (dats a m ρ 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m ρ 0 c).before w t d))
                  | true => owns (c : Thread nD τ) (((cfgT a).win w).stage ((cfgT a).slots t w)) fullShare ((dats a m ρ 0 c).after w t)
                | false => owns (c : Thread nD τ) (((cfgT a).win w).stage ((cfgT a).slots t w)) fullShare ((dats a m ρ 0 c).after w t)) := by
  rw [bigSep_W0]
  simp only [before0, before1, before2, before3, before4, after0, after1, after2, after3, after4]
  rewrite [show (dats a m ρ 0 c).Φ t.succ = Inv a c from rfl, show (dats a m ρ 0 c).Φ t.castSucc = Inv a c from rfl,
    show (dats a m ρ 0 c).owesAt () t.succ = (dats a m ρ 0 c).owesAt () t.castSucc from rfl]
  unfold Inv
  iintro ⟨⟨HT0, HT1⟩, Ho, ⟨%d0, H0⟩, ⟨%d1, H1⟩, ⟨%d2, H2⟩, ⟨%d3, H3⟩, ⟨%d4, H4⟩, ⟨%d5, H5⟩⟩
  iapply (body c (pt a t) (st0 a t) (wh0 a t) (st1 a t) (wh1 a t) (st2 a t) (wh2 a t) (st3 a t) (wh3 a t) (st4 a t) (wh4 a t) (st5 a t) (wh5 a t)
    (a.1 0) (a.1 1) (iblk a m ρ c (0 : Fin 6) t) (iblk a m ρ c (1 : Fin 6) t) (iblk a m ρ c (2 : Fin 6) t) (iblk a m ρ c (3 : Fin 6) t)
    (iblk a m ρ c (4 : Fin 6) t) ((dats a m ρ 0 c).before (5 : Fin 6) t d5) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexact H5
  rewrite [show step (pt a t) (word (a.1 1)) (iblk a m ρ c (0 : Fin 6) t) (iblk a m ρ c (1 : Fin 6) t) (iblk a m ρ c (2 : Fin 6) t)
    (iblk a m ρ c (3 : Fin 6) t) (iblk a m ρ c (4 : Fin 6) t) ((dats a m ρ 0 c).before (5 : Fin 6) t d5) = held a m ρ c t.val t.isLt from leaves_held a m ρ c t d5]
  iintro ⟨H0, H1, H2, H3, H4, HT0, HT1, H5⟩
  isplitl [HT0 HT1]
  · isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply handed a m ρ c t; iexact H5

theorem body_obligation (c : Dev nD) : BodyObligation (dats a m ρ 0 c) (defs₀ (F := Bits)) Variants.none () Set.univ := fun t => by
  rw [bigSep_W0]
  exact sound_body a m ρ c t

/-! ## The launch -/

def u₀ : UR sig nD τ :=
  initOf (Pipeline.cells (pcsT a) ((launch0 (F := Bits)).cellOf_inj fun _ => a))
    (Pipeline.launchToks (pcsT a) ((launch0 (F := Bits)).cellOf_inj fun _ => a))

theorem share_eq (c : Dev nD) (w : Fin (cfgT a).W) : (dats a m ρ 0 c).share w = fullShare := by unfold Dat.share; split <;> rfl

theorem tables_split (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_split, scopedRest0_eq, show (dats a m ρ 0 c).Φ 0 = Inv a c from rfl]
  unfold Inv
  iintro ⟨-, ⟨HT0, HT1⟩, -⟩
  isplitl [HT0]
  · iexact HT0
  iexact HT1

theorem leave (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Inv a c from rfl]
  unfold Inv
  iintro ⟨-, -⟩
  isplitr; · iempintro
  iempintro

/-- Every array at what the pipeline computes, every table as it was. -/
def Final : PUnit × MemSt nD τ sig (Elt Bits) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
theorem run_quiescent (hp : Tabled a m) : θ_run (defs (F := Bits)) (onTc (τ := τ) (main (F := Bits))) (s₀ m ρ) (fun r => Final a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_obligation a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m ρ) 0 (launch0 (F := Bits)).win.arr_inj c (launch0 (F := Bits)).arr_whole
      (share_eq a m ρ c) _ _ fun _ => rfl)
    (hpf := fun c j => hp c j)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Tabled a m) : θ_run (defs (F := Bits)) (onTc (τ := τ) (main (F := Bits))) (s₀ m ρ) (Final a m ρ) :=
  (θ_run defs _ _).mono (fun _ h => h.1) (run_quiescent a m ρ hp)

theorem unchanged (hp : Tabled a m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats a m ρ 0 c).arrAt_in (0 : Fin 6) rfl _), ((h c).1 (1 : Fin 6)).trans ((dats a m ρ 0 c).arrAt_in (1 : Fin 6) rfl _), ((h c).2 0).trans (hp c 0).symm, ((h c).2 1).trans (hp c 1).symm, ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run a m ρ hp)

/-- From a memory whose tables are admissible every execution ends, the arguments unchanged and every counter at zero. -/
theorem framed (hp : Tabled a m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_quiescent a m ρ hp))

end Cert.Kernel2.Moe

end
-- ==== Proof.MoeBodyIdeal.lean ====
/- At the ideal values: the expert feed-forward's kernel body at one grid point: from the blocks and whatever the result block held, it leaves the
   result block zeroed, extended by a tile's product and gated, each under its own condition. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ValueKit
public import Idealize.ShloMosaic.Lib.Writes
public import Idealize.ShloMosaic.Lib.VecWindow
public import Idealize.ShloMosaic.Lib.Exec
public import Idealize.ShloMosaic.Lib.Tactic
public import Idealize.ShloMosaic.PureOps.Ideal.Laws
public import Idealize.ShloMosaic.Adequacy
public import Idealize.ShloMosaic.Init

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The two tables as the body is handed them: the block's expert, and the number of used blocks. -/
abbrev tb0 : Memref sig .tc .smem S24 .i32 := Memref.whole main_arg2
abbrev tb1 : Memref sig .tc .smem S1 .i32 := Memref.whole main_arg3

/-- The number of used blocks as the body loads it. -/
abbrev word (T1 : S1.Idx → Elt Ideal .i32) : Elt Ideal .i32 :=
  View.readAt (Elt Ideal) tb1.view (Rect.unit (s := S1) ![0] S1.size inb_S1_S1_0).toLoadRect T1 (Shape.Idx.first (numel1_S1.symm ▸ Nat.one_pos))

/-- What the result block holds after the body, from what it held: zeroed at the first tile, extended in a used block, gated
    after a used block's last tile. -/
def step (i : grid0.Coords) (n : Elt Ideal .i32) (x0 : Vec Ideal S1024x2048 .bf16) (x1 : Vec Ideal S1024x1 .f32) (x2 x3 : Vec Ideal S1x2048x256 .f32)
    (x4 : Vec Ideal S1x256x2048 .f32) (xo : Vec Ideal S1024x2048 .f32) : Vec Ideal S1024x2048 .f32 :=
  let a := if k0_cond1 i = 1#1 then k0_pay1 (F := Ideal) else xo
  let b := if k0_cond2 i n = 1#1 then k0_pay2 (F := Ideal) a x0 x2 x3 x4 else a
  if k0_cond3 i n = 1#1 then k0_pay3 (F := Ideal) b x1 else b

set_option maxHeartbeats 1000000 in
/-- The body's run at any grid point and any tables. -/
theorem body (c : Dev nD) (i : grid0.Coords) (arg4 : Memref sig .tc .vmem S1024x2048 .bf16) (harg4 : arg4.IsWhole) (arg5 : Memref sig .tc .vmem S1024x1 .f32) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x256x2048 .f32) (harg8 : arg8.IsWhole) (arg9 : Memref sig .tc .vmem S1024x2048 .f32) (harg9 : arg9.IsWhole)
    (T0 : S24.Idx → Elt Ideal .i32) (T1 : S1.Idx → Elt Ideal .i32)
    (x0 : S1024x2048.Idx → Elt Ideal .bf16) (x1 : S1024x1.Idx → Elt Ideal .f32) (x2 x3 : S1x2048x256.Idx → Elt Ideal .f32)
    (x4 : S1x256x2048.Idx → Elt Ideal .f32) (xo : S1024x2048.Idx → Elt Ideal .f32) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (arg7.view.loc (c : Thread nD τ) ↦[arg7.view.set]{fullShare} arg7.view.rep x3)
      ∗ (arg8.view.loc (c : Thread nD τ) ↦[arg8.view.set]{fullShare} arg8.view.rep x4)
      ∗ (tb0.view.loc (c : Thread nD τ) ↦{fullShare.right} T0)
      ∗ (tb1.view.loc (c : Thread nD τ) ↦{fullShare.right} T1)
      ∗ owns (c : Thread nD τ) arg9 fullShare xo
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (tb0.view.loc (c : Thread nD τ) ↦{fullShare.right} T0)
          ∗ (tb1.view.loc (c : Thread nD τ) ↦{fullShare.right} T1)
          ∗ owns (c : Thread nD τ) arg9 fullShare (step i (word T1) x0 x1 x2 x3 x4 xo)) -∗ K ⟨⟩))
      ⊢ wp frame (wpE (defs₀ (F := Ideal)) Variants.none c none) Set.univ (cc0_moe_ffn i tb0 (Memref.isWhole_whole _) tb1 (Memref.isWhole_whole _) arg4 harg4 arg5 harg5 arg6 harg6 arg7 harg7 arg8 harg8 arg9 harg9) K := by
  unfold owns
  rw [cc0_moe_ffn_eq_skeleton]; unfold cc0_moe_ffn_skel
  iintro ⟨H0, H1, H2, H3, H4, HT0, HT1, ⟨%f5, %hf5, HO5⟩, Hk⟩
  obtain rfl := harg9.eq_unread hf5
  have hT0 : tb0.IsWhole := Memref.isWhole_whole _
  have hT1 : tb1.IsWhole := Memref.isWhole_whole _
  by_cases h1 : k0_cond1 i = 1#1 <;> by_cases h2 : k0_cond2 i (word T1) = 1#1 <;> by_cases h3 : k0_cond3 i (word T1) = 1#1
  all_goals
    sl_exec! (disch := first | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; isplitr; swap
    · iexact HO5
    · ipureintro
      simp only [step, h1, h2, h3, if_true, if_false, ite_true, ite_false]
      frame_out
      try simp only [View.read_rep]

end Cert.Kernel2Ideal.Moe

end
-- ==== Proof.MoeFrameIdeal.lean ====
/- At the ideal values: the expert feed-forward's kernel at any admissible tables: the result block's contents point by point, the body's
   obligation at every point, and the run of the whole program. -/
module

public import proofs.«01_k».proof.Proof.MoeBodyIdeal
public import Idealize.ShloMosaic.Lib.Pipeline.Quiescent
public import Idealize.ShloMosaic.Lib.Claim
public import Idealize.ShloMosaic.Lib.Ring
public import Idealize.ShloMosaic.Lib.Affine

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (a : (pcfg0 (F := Ideal)).Adm)
variable (m : (ℓ : Loc nD τ sig) → Buf (Elt Ideal) ℓ) (ρ : Dev nD → PrngReg)

abbrev cfgT : Pipeline.Cfg sig Λ₀ := cfg0 (F := Ideal) a
abbrev pcsT : Fin 1 → Pipeline.Cfg sig Λ₀ := Pipeline.pin (pcfgs (F := Ideal)) fun _ => a

/-- The memory's tables are the ones the pipeline runs at. -/
def Tabled : Prop := ∀ (c : Dev nD) (j : Fin 2), m ((c : Thread nD τ).loc (pre0.ref j)) = a.1 j

abbrev pt (t : Fin (cfgT a).N) : grid0.Coords := (cfgT a).grid.coords t

abbrev st0 (t : Fin (cfgT a).N) : Memref sig .tc .vmem S1024x2048 .bf16 := spec0_0.stage ((cfgT a).slots t (0 : Fin 6))
abbrev wh0 (t : Fin (cfgT a).N) : (st0 a t).IsWhole := hstage0_0 (((cfgT a).slots t (0 : Fin 6)).cast nbuf0_0)
abbrev st1 (t : Fin (cfgT a).N) : Memref sig .tc .vmem S1024x1 .f32 := spec0_1.stage ((cfgT a).slots t (1 : Fin 6))
abbrev wh1 (t : Fin (cfgT a).N) : (st1 a t).IsWhole := hstage0_1 (((cfgT a).slots t (1 : Fin 6)).cast nbuf0_1)
abbrev st2 (t : Fin (cfgT a).N) : Memref sig .tc .vmem S1x2048x256 .f32 := spec0_2.stage ((cfgT a).slots t (2 : Fin 6))
abbrev wh2 (t : Fin (cfgT a).N) : (st2 a t).IsWhole := hstage0_2 (((cfgT a).slots t (2 : Fin 6)).cast nbuf0_2)
abbrev st3 (t : Fin (cfgT a).N) : Memref sig .tc .vmem S1x2048x256 .f32 := spec0_3.stage ((cfgT a).slots t (3 : Fin 6))
abbrev wh3 (t : Fin (cfgT a).N) : (st3 a t).IsWhole := hstage0_3 (((cfgT a).slots t (3 : Fin 6)).cast nbuf0_3)
abbrev st4 (t : Fin (cfgT a).N) : Memref sig .tc .vmem S1x256x2048 .f32 := spec0_4.stage ((cfgT a).slots t (4 : Fin 6))
abbrev wh4 (t : Fin (cfgT a).N) : (st4 a t).IsWhole := hstage0_4 (((cfgT a).slots t (4 : Fin 6)).cast nbuf0_4)
abbrev st5 (t : Fin (cfgT a).N) : Memref sig .tc .vmem S1024x2048 .f32 := spec0_5.stage ((cfgT a).slots t (5 : Fin 6))
abbrev wh5 (t : Fin (cfgT a).N) : (st5 a t).IsWhole := hstage0_5 (((cfgT a).slots t (5 : Fin 6)).cast nbuf0_5)

/-- Window `w`'s block at point `t`, as its array holds it at launch. -/
def iblk (c : Dev nD) (w : Fin (cfgT a).W) (t : Fin (cfgT a).N) : (((cfgT a).win w).xblock (pt a t)).Idx → Elt Ideal ((cfgT a).win w).elt :=
  (((cfgT a).win w).blk t).view.read (Elt Ideal) ((s₀ m ρ).mem (((cfgT a).win w).arr.view.loc (c : Thread nD τ)))

/-! ## The schedule: the result's block is new at each run's first tile, written back after its last -/

theorem first_tile : ∀ t : Fin grid0.N, (k0_cond1 (grid0.coords t) = 1#1) ↔ t.val % 28 = 0 := by decide +kernel

theorem leaves : ∀ t : Fin grid0.N, Window.flushOf grid0 true (fun i => cc0_transform_5 i) t = decide (t.val % 28 = 27) := by decide +kernel

theorem flush5 (t : Fin (cfgT a).N) : ((cfgT a).win (5 : Fin 6)).flush t = decide (t.val % 28 = 27) := leaves t

theorem word_table : (a.1.atD 1 ![0] : Elt Ideal .i32) = word (a.1 1) := by
  unfold Pipeline.Prefetch.Contents.atD
  rw [dif_pos (by decide)]
  exact congrArg (a.1 1) (funext fun d => Fin.ext (by fin_cases d; rfl))

theorem idle5 (t : Fin (cfgT a).N) (h : (cfgT a).idle (5 : Fin 6) (pt a t) = true) :
    k0_cond1 (pt a t) ≠ 1#1 ∧ k0_cond2 (pt a t) (word (a.1 1)) ≠ 1#1 ∧ k0_cond3 (pt a t) (word (a.1 1)) ≠ 1#1 := by
  have h' : (!(k0_cond1 (pt a t) == 1#1) && !(k0_cond2 (pt a t) (a.1.atD 1 ![0]) == 1#1) && !(k0_cond3 (pt a t) (a.1.atD 1 ![0]) == 1#1)) = true := h
  rw [word_table] at h'
  simpa [and_assoc] using h'

theorem fresh5 (t : Fin (cfgT a).N) : (cfgT a).fresh (5 : Fin 6) t.val = decide (t.val % 28 = 0) :=
  Pipeline.Cfg.fresh_tab (cfgT a) (5 : Fin 6) (fun n => decide (n % 28 = 0)) rfl (fun t => by
    rw [flush5]
    by_cases h0 : t.val % 28 = 0
    · have hi : (cfgT a).idle (5 : Fin 6) ((cfgT a).grid.coords t) = false := by
        rw [← Bool.not_eq_true]
        exact fun h => (idle5 a t h).1 ((first_tile t).2 h0)
      rw [hi, Bool.false_and, Bool.or_false]
      exact decide_eq_decide.2 (by omega)
    · rw [decide_eq_false h0, Bool.and_false, Bool.or_false]
      exact decide_eq_decide.2 (by omega)) t.val (Nat.le_of_lt t.isLt)

/-! ## What the result's block holds after each point -/

abbrev stepAt (c : Dev nD) (t : Fin (cfgT a).N) (xo : S1024x2048.Idx → Elt Ideal .f32) : S1024x2048.Idx → Elt Ideal .f32 :=
  step (pt a t) (word (a.1 1)) (iblk a m ρ c (0 : Fin 6) t) (iblk a m ρ c (1 : Fin 6) t) (iblk a m ρ c (2 : Fin 6) t)
    (iblk a m ρ c (3 : Fin 6) t) (iblk a m ρ c (4 : Fin 6) t) xo

def held (c : Dev nD) : (n : ℕ) → n < (cfgT a).N → (S1024x2048.Idx → Elt Ideal .f32)
  | 0, h => stepAt a m ρ c ⟨0, h⟩ default
  | n + 1, h => stepAt a m ρ c ⟨n + 1, h⟩ (held c n (Nat.lt_of_succ_lt h))

def before (c : Dev nD) (t : Fin (cfgT a).N) : S1024x2048.Idx → Elt Ideal .f32 :=
  if h : t.val = 0 then default else held a m ρ c (t.val - 1) (by omega)

theorem held_eq (c : Dev nD) (t : Fin (cfgT a).N) : held a m ρ c t.val t.isLt = stepAt a m ρ c t (before a m ρ c t) := by
  obtain ⟨n, hn⟩ := t
  cases n with
  | zero => rfl
  | succ n => unfold before; simp only [Nat.add_one_ne_zero, dif_neg, not_false_eq_true]; rfl

/-- At a run's first tile the result's block is zeroed, whatever it held. -/
theorem step_first (i : grid0.Coords) (n x0 x1 x2 x3 x4 xo xo') (h : k0_cond1 i = 1#1) :
    step i n x0 x1 x2 x3 x4 xo = step i n x0 x1 x2 x3 x4 xo' := by
  unfold step; simp only [h, if_true]

/-- Where no condition holds the block keeps what it held. -/
theorem step_idle (i : grid0.Coords) (n x0 x1 x2 x3 x4 xo) (h1 : k0_cond1 i ≠ 1#1) (h2 : k0_cond2 i n ≠ 1#1) (h3 : k0_cond3 i n ≠ 1#1) :
    step i n x0 x1 x2 x3 x4 xo = xo := by
  unfold step; simp only [h1, h2, h3, if_false]

/-! ## The pipeline's proof data -/

def Inv (c : Dev nD) : sProp 𝕄 :=
  iprop((tb0.view.loc (c : Thread nD τ) ↦{fullShare.right} a.1 0) ∗ (tb1.view.loc (c : Thread nD τ) ↦{fullShare.right} a.1 1))

def dats (_ : Fin 1) (c : Dev nD) : Dat τ (Elt Ideal) Unit ℕ (UR sig nD τ) ℕ (cfgT a) c where
  A w := (s₀ m ρ).mem (((cfgT a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => held a m ρ c t.val t.isLt
  Φ _ := Inv a c
  q _ := fullShare
  owed _ := 0

theorem after0 (c : Dev nD) (t : Fin (cfgT a).N) : (dats a m ρ 0 c).after (0 : Fin 6) t = iblk a m ρ c (0 : Fin 6) t := rfl
theorem after1 (c : Dev nD) (t : Fin (cfgT a).N) : (dats a m ρ 0 c).after (1 : Fin 6) t = iblk a m ρ c (1 : Fin 6) t := rfl
theorem after2 (c : Dev nD) (t : Fin (cfgT a).N) : (dats a m ρ 0 c).after (2 : Fin 6) t = iblk a m ρ c (2 : Fin 6) t := rfl
theorem after3 (c : Dev nD) (t : Fin (cfgT a).N) : (dats a m ρ 0 c).after (3 : Fin 6) t = iblk a m ρ c (3 : Fin 6) t := rfl
theorem after4 (c : Dev nD) (t : Fin (cfgT a).N) : (dats a m ρ 0 c).after (4 : Fin 6) t = iblk a m ρ c (4 : Fin 6) t := rfl
theorem after5 (c : Dev nD) (t : Fin (cfgT a).N) : (dats a m ρ 0 c).after (5 : Fin 6) t = held a m ρ c t.val t.isLt := rfl

theorem before0 (c : Dev nD) (t : Fin (cfgT a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgT a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgT a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgT a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgT a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after4]; unfold Dat.blockOf iblk; rfl) t d).trans
    (by unfold Dat.fetched Dat.blockOf iblk; rfl)

theorem stays (c : Dev nD) (t : Fin (cfgT a).N) (hi : (cfgT a).idle (5 : Fin 6) (pt a t) = true) :
    held a m ρ c t.val t.isLt = before a m ρ c t := by
  obtain ⟨h1, h2, h3⟩ := idle5 a t hi
  rw [held_eq, stepAt, step_idle _ _ _ _ _ _ _ _ h1 h2 h3]

theorem before5 (c : Dev nD) (t : Fin (cfgT a).N) (d) :
    (dats a m ρ 0 c).before (5 : Fin 6) t d = if t.val % 28 = 0 then d else before a m ρ c t := by
  rw [(dats a m ρ 0 c).before_out_traj (5 : Fin 6) rfl (fun _ _ => rfl) (fun t ht hi _ => by
    rw [after5, after5, stays a m ρ c t hi]; unfold before; rw [dif_neg ht]) t.val t rfl d, fresh5]
  by_cases h : t.val % 28 = 0
  · simp only [h, decide_true, if_true]
  · have h0 : t.val ≠ 0 := fun h0 => h (by rw [h0])
    simp only [h, decide_false, if_false, Bool.false_eq_true, after5]; unfold before; rw [dif_neg h0]

/-! ## The body's obligation -/

abbrev bodyAt (t : Fin (cfgT a).N) : Prog (TpuEff nD τ sig (Elt Ideal) Λ₀ .tc) PUnit :=
  cc0_moe_ffn (pt a t) (Memref.whole main_arg2) (Memref.isWhole_whole _) (Memref.whole main_arg3) (Memref.isWhole_whole _) (st0 a t) (wh0 a t) (st1 a t) (wh1 a t) (st2 a t) (wh2 a t) (st3 a t) (wh3 a t) (st4 a t) (wh4 a t) (st5 a t) (wh5 a t)

/-- The body at a point leaves the result's block at what `held` says, from what it held before. -/
theorem leaves_held (c : Dev nD) (t : Fin (cfgT a).N) (d) :
    stepAt a m ρ c t ((dats a m ρ 0 c).before (5 : Fin 6) t d) = held a m ρ c t.val t.isLt := by
  rw [before5, held_eq]
  by_cases h : t.val % 28 = 0
  · exact step_first _ _ _ _ _ _ _ _ _ ((first_tile t).2 h)
  · rw [if_neg h]

/-- What is handed back of the result's block, in each of the cases the pipeline tells apart. -/
theorem handed (c : Dev nD) (t : Fin (cfgT a).N) :
    owns (c : Thread nD τ) (st5 a t) fullShare (held a m ρ c t.val t.isLt)
      ⊢ (match (cfgT a).idle (5 : Fin 6) ((cfgT a).grid.coords t) with
          | true =>
            match ((cfgT a).win (5 : Fin 6)).flush t with
            | false => iprop(∃ d, owns (c : Thread nD τ) (((cfgT a).win (5 : Fin 6)).stage ((cfgT a).slots t (5 : Fin 6))) fullShare ((dats a m ρ 0 c).before (5 : Fin 6) t d))
            | true => owns (c : Thread nD τ) (((cfgT a).win (5 : Fin 6)).stage ((cfgT a).slots t (5 : Fin 6))) fullShare ((dats a m ρ 0 c).after (5 : Fin 6) t)
          | false => owns (c : Thread nD τ) (((cfgT a).win (5 : Fin 6)).stage ((cfgT a).slots t (5 : Fin 6))) fullShare ((dats a m ρ 0 c).after (5 : Fin 6) t) : sProp 𝕄) := by
  cases hi : (cfgT a).idle (5 : Fin 6) ((cfgT a).grid.coords t)
  · exact .rfl
  · cases hf : ((cfgT a).win (5 : Fin 6)).flush t
    · iintro H
      iexists default
      rw [before5, if_neg fun h => (idle5 a t hi).1 ((first_tile t).2 h), ← stays a m ρ c t hi]
      iexact H
    · exact .rfl

set_option maxHeartbeats 4000000 in
theorem sound_body (c : Dev nD) (t : Fin (cfgT a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := Ideal)) Variants.none c none) Set.univ (bodyAt a t) fun _ =>
          iprop((dats a m ρ 0 c).Φ t.succ ∗ (dats a m ρ 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m ρ 0 c).before w t d))
                  | true => owns (c : Thread nD τ) (((cfgT a).win w).stage ((cfgT a).slots t w)) fullShare ((dats a m ρ 0 c).after w t)
                | false => owns (c : Thread nD τ) (((cfgT a).win w).stage ((cfgT a).slots t w)) fullShare ((dats a m ρ 0 c).after w t)) := by
  rw [bigSep_W0]
  simp only [before0, before1, before2, before3, before4, after0, after1, after2, after3, after4]
  rewrite [show (dats a m ρ 0 c).Φ t.succ = Inv a c from rfl, show (dats a m ρ 0 c).Φ t.castSucc = Inv a c from rfl,
    show (dats a m ρ 0 c).owesAt () t.succ = (dats a m ρ 0 c).owesAt () t.castSucc from rfl]
  unfold Inv
  iintro ⟨⟨HT0, HT1⟩, Ho, ⟨%d0, H0⟩, ⟨%d1, H1⟩, ⟨%d2, H2⟩, ⟨%d3, H3⟩, ⟨%d4, H4⟩, ⟨%d5, H5⟩⟩
  iapply (body c (pt a t) (st0 a t) (wh0 a t) (st1 a t) (wh1 a t) (st2 a t) (wh2 a t) (st3 a t) (wh3 a t) (st4 a t) (wh4 a t) (st5 a t) (wh5 a t)
    (a.1 0) (a.1 1) (iblk a m ρ c (0 : Fin 6) t) (iblk a m ρ c (1 : Fin 6) t) (iblk a m ρ c (2 : Fin 6) t) (iblk a m ρ c (3 : Fin 6) t)
    (iblk a m ρ c (4 : Fin 6) t) ((dats a m ρ 0 c).before (5 : Fin 6) t d5) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexact H5
  rewrite [show step (pt a t) (word (a.1 1)) (iblk a m ρ c (0 : Fin 6) t) (iblk a m ρ c (1 : Fin 6) t) (iblk a m ρ c (2 : Fin 6) t)
    (iblk a m ρ c (3 : Fin 6) t) (iblk a m ρ c (4 : Fin 6) t) ((dats a m ρ 0 c).before (5 : Fin 6) t d5) = held a m ρ c t.val t.isLt from leaves_held a m ρ c t d5]
  iintro ⟨H0, H1, H2, H3, H4, HT0, HT1, H5⟩
  isplitl [HT0 HT1]
  · isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply handed a m ρ c t; iexact H5

theorem body_obligation (c : Dev nD) : BodyObligation (dats a m ρ 0 c) (defs₀ (F := Ideal)) Variants.none () Set.univ := fun t => by
  rw [bigSep_W0]
  exact sound_body a m ρ c t

/-! ## The launch -/

def u₀ : UR sig nD τ :=
  initOf (Pipeline.cells (pcsT a) ((launch0 (F := Ideal)).cellOf_inj fun _ => a))
    (Pipeline.launchToks (pcsT a) ((launch0 (F := Ideal)).cellOf_inj fun _ => a))

theorem share_eq (c : Dev nD) (w : Fin (cfgT a).W) : (dats a m ρ 0 c).share w = fullShare := by unfold Dat.share; split <;> rfl

theorem tables_split (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_split, scopedRest0_eq, show (dats a m ρ 0 c).Φ 0 = Inv a c from rfl]
  unfold Inv
  iintro ⟨-, ⟨HT0, HT1⟩, -⟩
  isplitl [HT0]
  · iexact HT0
  iexact HT1

theorem leave (c : Dev nD) : (dats a m ρ 0 c).Φ (Fin.last (cfgT a).N) ⊢ iprop(BI.emp ∗ Pipeline.scopedRest spec0 c) := by
  rw [scopedRest0_eq, show (dats a m ρ 0 c).Φ (Fin.last (cfgT a).N) = Inv a c from rfl]
  unfold Inv
  iintro ⟨-, -⟩
  isplitr; · iempintro
  iempintro

/-- Every array at what the pipeline computes, every table as it was. -/
def Final : PUnit × MemSt nD τ sig (Elt Ideal) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
theorem run_quiescent (hp : Tabled a m) : θ_run (defs (F := Ideal)) (onTc (τ := τ) (main (F := Ideal))) (s₀ m ρ) (fun r => Final a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_obligation a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT a) (dats a m ρ) 0 (launch0 (F := Ideal)).win.arr_inj c (launch0 (F := Ideal)).arr_whole
      (share_eq a m ρ c) _ _ fun _ => rfl)
    (hpf := fun c j => hp c j)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run (hp : Tabled a m) : θ_run (defs (F := Ideal)) (onTc (τ := τ) (main (F := Ideal))) (s₀ m ρ) (Final a m ρ) :=
  (θ_run defs _ _).mono (fun _ h => h.1) (run_quiescent a m ρ hp)

theorem unchanged (hp : Tabled a m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (0 : Fin 6)).trans ((dats a m ρ 0 c).arrAt_in (0 : Fin 6) rfl _), ((h c).1 (1 : Fin 6)).trans ((dats a m ρ 0 c).arrAt_in (1 : Fin 6) rfl _), ((h c).2 0).trans (hp c 0).symm, ((h c).2 1).trans (hp c 1).symm, ((h c).1 (2 : Fin 6)).trans ((dats a m ρ 0 c).arrAt_in (2 : Fin 6) rfl _), ((h c).1 (3 : Fin 6)).trans ((dats a m ρ 0 c).arrAt_in (3 : Fin 6) rfl _), ((h c).1 (4 : Fin 6)).trans ((dats a m ρ 0 c).arrAt_in (4 : Fin 6) rfl _)⟩) (run a m ρ hp)

/-- From a memory whose tables are admissible every execution ends, the arguments unchanged and every counter at zero. -/
theorem framed (hp : Tabled a m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged a m ρ hp) ((θ_run defs _ _).mono (fun _ h => h.2) (run_quiescent a m ρ hp))

end Cert.Kernel2Ideal.Moe

end
-- ==== Proof.MoeTablesIdeal.lean ====
/- At the ideal values: the routing tables under the precondition: every block's expert is one of the eight, between one and all of the blocks are
   used, and so every block of every window lies inside its array. -/
module

public import proofs.«01_k».proof.Proof.MoeFrameIdeal
public import proofs.«01_k».proof.Defs
public import proofs.«01_k».proof.Proof.Gen.Pre_routed
public import Idealize.ShloMosaic.Lib.ReduceAll
public import Idealize.ShloMosaic.Lib.WordCmp
public import Idealize.ShloMosaic.Lib.Pointwise

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

/-- A word whose signed value lies in a small range has that value. -/
theorem toNat_of_range (x : BitVec 32) (k : ℕ) (hk : k < 2 ^ 31) (h0 : 0 ≤ x.toInt) (h1 : x.toInt ≤ k) : x.toNat ≤ k ∧ (x.toInt = x.toNat) := by
  have h := BitVec.toInt_eq_toNat_cond x
  have := x.isLt
  split at h <;> omega

/-- What the precondition says of the words. -/
theorem routed_words [Cert.Pre_routed.Facts] (x0 x1) (be : IVec S24 32) (nu : IVec S1 32) (x4 x5 x6)
    (h : Cert.Pre_routed.fn (F := Ideal) x0 x1 be nu x4 x5 x6 = fun _ => 1#1) :
    (∀ j, (be j).toNat < 8) ∧ (∀ z, 1 ≤ (nu z).toNat ∧ (nu z).toNat ≤ 24) := by
  have h' := congrFun h (fun a => a.elim0)
  obtain ⟨h1, hle⟩ := IntOp.andi_eq_one.1 h'
  obtain ⟨hall, hge⟩ := IntOp.andi_eq_one.1 h1
  have hge' := IntOp.cmpi_sge.1 hge
  have hle' := IntOp.cmpi_sle.1 hle
  have e1 : (1#32 : BitVec 32).toInt = 1 := by decide
  have e24 : (24#32 : BitVec 32).toInt = 24 := by decide
  have e8 : (8#32 : BitVec 32).toInt = 8 := by decide
  have e0 : (0#32 : BitVec 32).toInt = 0 := by decide
  have hn (z : S1.Idx) : shapeCast Cert.Pre_routed.S_ nu Cert.Pre_routed.Facts.shapeCasts_S1_S_ (fun a => a.elim0) = nu z :=
    congrArg nu (funext fun d => Fin.ext (by
      have h1 := (z d).isLt
      have h2 : ∀ w : S1.Idx, (w d).val < 1 := fun w => by fin_cases d; exact (w 0).isLt
      have := h2 z
      exact (Nat.lt_one_iff.1 (h2 _)).trans (Nat.lt_one_iff.1 (h2 z)).symm))
  refine ⟨fun j => ?_, fun z => ?_⟩
  · have hj := Host.reduce_andi_all (t := Cert.Pre_routed.S_) (hu := Cert.Pre_routed.Facts.h_S_) _ _ _ (fun a => a.elim0) hall j
    obtain ⟨ha, hb⟩ := IntOp.andi_eq_one.1 hj
    have ha' := IntOp.cmpi_sge.1 ha
    have hb' := IntOp.cmpi_slt.1 hb
    have a0 : (0 : ℤ) ≤ (be j).toInt := e0 ▸ ha'
    have b0 : (be j).toInt < 8 := e8 ▸ hb'
    have := toNat_of_range (be j) 7 (by norm_num) a0 (by omega)
    omega
  · have ha : (1 : ℤ) ≤ (nu z).toInt := by rw [← hn z, ← e1]; exact hge'
    have hb : (nu z).toInt ≤ 24 := by rw [← hn z, ← e24]; exact hle'
    have := toNat_of_range (nu z) 24 (by norm_num) (by omega) hb
    omega

/-! ## The scalar steps of the index maps and the conditions -/

theorem word_ofNat (n : BitVec 32) : n = BitVec.ofNat 32 n.toNat := by simp

theorem min_word (i : ℕ) (hi : i < 24) (n : BitVec 32) (h1 : 1 ≤ n.toNat) (h2 : n.toNat ≤ 24) :
    (Scalar.minsi (BitVec.ofNat 32 i) (Scalar.subi n 1#32)).toNat = min i (n.toNat - 1) := by
  have H : ∀ i < 24, ∀ k < 25, 1 ≤ k → (Scalar.minsi (BitVec.ofNat 32 i) (Scalar.subi (BitVec.ofNat 32 k) 1#32)).toNat = min i (k - 1) := by decide +kernel
  have := H i hi n.toNat (by omega) h1
  rwa [← word_ofNat] at this

theorem slt_word (i : ℕ) (hi : i < 24) (n : BitVec 32) (h2 : n.toNat ≤ 24) :
    Scalar.cmpi .slt (BitVec.ofNat 32 i) n = if i < n.toNat then 1#1 else 0#1 := by
  have H : ∀ i < 24, ∀ k < 25, Scalar.cmpi .slt (BitVec.ofNat 32 i) (BitVec.ofNat 32 k) = if i < k then 1#1 else 0#1 := by decide +kernel
  have := H i hi n.toNat (by omega)
  rwa [← word_ofNat] at this

theorem cond2_iff (i : grid0.Coords) (n : BitVec 32) (h2 : n.toNat ≤ 24) : k0_cond2 i n = 1#1 ↔ (i 0).val < n.toNat := by
  have H : ∀ b : Bool, Scalar.cmpi .ne (Scalar.extui (if b = true then 1#1 else 0#1) : BitVec 32) 0#32 = 1#1 ↔ b = true := by decide
  unfold k0_cond2
  simp only [slt_word _ (i 0).isLt n h2]
  have := H (decide ((i 0).val < n.toNat))
  simpa using this

theorem cond3_iff (i : grid0.Coords) (n : BitVec 32) (h2 : n.toNat ≤ 24) : k0_cond3 i n = 1#1 ↔ (i 0).val < n.toNat ∧ (i 1).val = 27 := by
  have H : ∀ b : Bool, ∀ x : Fin 28, Scalar.cmpi .ne (Scalar.extui (Scalar.andi (if b = true then 1#1 else 0#1) (Scalar.cmpi .eq (BitVec.ofNat 32 x.val) 27#32)) : BitVec 32) 0#32 = 1#1
      ↔ b = true ∧ x.val = 27 := by decide +kernel
  unfold k0_cond3
  simp only [slt_word _ (i 0).isLt n h2]
  have := H (decide ((i 0).val < n.toNat)) (i 1)
  simpa using this

/-! ## The blocks the index maps name -/

variable (pf : pre0.Contents (Elt Ideal))

/-- The number of used blocks, and a block's expert, as the tables hold them. -/
abbrev used : BitVec 32 := (pf 1 : S1.Idx → BitVec 32) (ix1 (0 : Fin 1))
abbrev expert (b : Fin 24) : BitVec 32 := (pf 0 : S24.Idx → BitVec 32) (ix1 b)

theorem load_used : pf.at 1 (Rect.unit (s := S1) ![0] S1.size inb_S1_S1_0) numel1_S1 = used pf :=
  congrArg (pf 1) (funext fun d => Fin.ext (by fin_cases d; rfl))

theorem load_expert (i : grid0.Coords) :
    pf.at 0 (Rect.unit (s := S24) ![(Scalar.indexCast (BitVec.ofNat 32 (i 0).val) : Index).toNat] S1.size (k0_off1_inb i)) numel1_S1 = expert pf (i 0) := by
  have e : (Scalar.indexCast (BitVec.ofNat 32 (i 0).val) : Index).toNat = (i 0).val := congrFun (k0_off1_eq i) 0
  refine congrArg (pf 0) (funext fun d => Fin.ext ?_)
  fin_cases d
  show (Scalar.indexCast (BitVec.ofNat 32 (i 0).val) : Index).toNat + 1 * 0 = (i 0).val
  omega

/-- The tile a window takes: the point's own in a used block, the last one after. -/
def tileOf (i : grid0.Coords) : ℕ := if (i 0).val < (used pf).toNat then (i 1).val else 27

theorem tileOf_lt (i : grid0.Coords) : tileOf pf i < 28 := by
  unfold tileOf
  have : (i 1).val < 28 := (i 1).isLt
  split <;> omega

variable (h1 : 1 ≤ (used pf).toNat) (h2 : (used pf).toNat ≤ 24) (h8 : ∀ b, (expert pf b).toNat < 8)

include h1 h2 in
theorem at0 (i : grid0.Coords) : cc0_transform_0 inb_S1_S1_0 numel1_S1 pf i = ![min (i 0).val ((used pf).toNat - 1), 0] := by
  exact congrArg (fun n : ℕ => (![n, 0] : Fin 2 → ℕ)) ((congrArg (fun n : BitVec 32 => (Scalar.minsi (BitVec.ofNat 32 (i 0).val) (Scalar.subi n 1#32)).toNat)
    (load_used pf)).trans (min_word _ (i 0).isLt _ h1 h2))
include h1 h2 in
theorem at1 (i : grid0.Coords) : cc0_transform_1 inb_S1_S1_0 numel1_S1 pf i = ![min (i 0).val ((used pf).toNat - 1), 0] := by
  exact congrArg (fun n : ℕ => (![n, 0] : Fin 2 → ℕ)) ((congrArg (fun n : BitVec 32 => (Scalar.minsi (BitVec.ofNat 32 (i 0).val) (Scalar.subi n 1#32)).toNat)
    (load_used pf)).trans (min_word _ (i 0).isLt _ h1 h2))

include h2 in
theorem pick (i : grid0.Coords) :
    (Scalar.select (Scalar.cmpi .slt (BitVec.ofNat 32 (i 0).val) (used pf)) (BitVec.ofNat 32 (i 1).val) 27#32 : BitVec 32).toNat = tileOf pf i := by
  have H : ∀ b : Bool, ∀ x : Fin 28, (Scalar.select (if b = true then 1#1 else 0#1) (BitVec.ofNat 32 x.val) 27#32 : BitVec 32).toNat = if b = true then x.val else 27 := by decide +kernel
  rw [slt_word _ (i 0).isLt _ h2]
  have := H (decide ((i 0).val < (used pf).toNat)) (i 1)
  simpa [tileOf] using this

include h2 in
theorem at2 (i : grid0.Coords) : cc0_transform_2 k0_off1_inb numel1_S1 inb_S1_S1_0 pf i = ![(expert pf (i 0)).toNat, 0, tileOf pf i] := by
  exact congrArg₂ (fun e f : ℕ => (![e, 0, f] : Fin 3 → ℕ)) (congrArg BitVec.toNat (load_expert pf i))
    ((congrArg (fun n : BitVec 32 => (Scalar.select (Scalar.cmpi .slt (BitVec.ofNat 32 (i 0).val) n) (BitVec.ofNat 32 (i 1).val) 27#32 : BitVec 32).toNat)
      (load_used pf)).trans (pick pf h2 i))
include h2 in
theorem at3 (i : grid0.Coords) : cc0_transform_3 k0_off1_inb numel1_S1 inb_S1_S1_0 pf i = ![(expert pf (i 0)).toNat, 0, tileOf pf i] := by
  exact congrArg₂ (fun e f : ℕ => (![e, 0, f] : Fin 3 → ℕ)) (congrArg BitVec.toNat (load_expert pf i))
    ((congrArg (fun n : BitVec 32 => (Scalar.select (Scalar.cmpi .slt (BitVec.ofNat 32 (i 0).val) n) (BitVec.ofNat 32 (i 1).val) 27#32 : BitVec 32).toNat)
      (load_used pf)).trans (pick pf h2 i))
include h2 in
theorem at4 (i : grid0.Coords) : cc0_transform_4 k0_off1_inb numel1_S1 inb_S1_S1_0 pf i = ![(expert pf (i 0)).toNat, tileOf pf i, 0] := by
  exact congrArg₂ (fun e f : ℕ => (![e, f, 0] : Fin 3 → ℕ)) (congrArg BitVec.toNat (load_expert pf i))
    ((congrArg (fun n : BitVec 32 => (Scalar.select (Scalar.cmpi .slt (BitVec.ofNat 32 (i 0).val) n) (BitVec.ofNat 32 (i 1).val) 27#32 : BitVec 32).toNat)
      (load_used pf)).trans (pick pf h2 i))

include h1 h2 h8 in
/-- Every block of every window lies inside its array. -/
theorem inside : ok0 (F := Ideal) pf := by
  refine ⟨fun i => ⟨fun d => ?_, .inr (Affine.block_words_dvd (s := S24576x2048) (p := EltTy.packing .bf16) (by decide) (by decide))⟩,
    fun i => ⟨fun d => ?_, .inl rfl⟩, fun i => ⟨fun d => ?_, .inl rfl⟩, fun i => ⟨fun d => ?_, .inl rfl⟩, fun i => ⟨fun d => ?_, .inl rfl⟩⟩
  all_goals
    have hi : (i 0).val < 24 := (i 0).isLt
    have ht := tileOf_lt pf i
    have he := h8 (i 0)
  · rw [at0 pf h1 h2]
    fin_cases d
    · show (min (i 0).val ((used pf).toNat - 1) + 1) * 1024 ≤ 24576
      omega
    · show (0 + 1) * 2048 ≤ 2048
      omega
  · rw [at1 pf h1 h2]
    fin_cases d
    · show (min (i 0).val ((used pf).toNat - 1) + 1) * 1024 ≤ 24576
      omega
    · show (0 + 1) * 1 ≤ 1
      omega
  · rw [at2 pf h2]
    fin_cases d
    · show ((expert pf (i 0)).toNat + 1) * 1 ≤ 8
      omega
    · show (0 + 1) * 2048 ≤ 2048
      omega
    · show (tileOf pf i + 1) * 256 ≤ 7168
      omega
  · rw [at3 pf h2]
    fin_cases d
    · show ((expert pf (i 0)).toNat + 1) * 1 ≤ 8
      omega
    · show (0 + 1) * 2048 ≤ 2048
      omega
    · show (tileOf pf i + 1) * 256 ≤ 7168
      omega
  · rw [at4 pf h2]
    fin_cases d
    · show ((expert pf (i 0)).toNat + 1) * 1 ≤ 8
      omega
    · show (tileOf pf i + 1) * 256 ≤ 7168
      omega
    · show (0 + 1) * 2048 ≤ 2048
      omega

/-! ## The tables of a memory under the precondition -/

/-- What the tables of an admissible memory say. -/
structure Routed (a : (pcfg0 (F := Ideal)).Adm) : Prop where
  some : 1 ≤ (used a.1).toNat
  most : (used a.1).toNat ≤ 24
  eight : ∀ b, (expert a.1 b).toNat < 8

theorem admissible [Cert.Pre_routed.Facts] (m : (ℓ : Loc nD τ sig) → Buf (Elt Ideal) ℓ) (h : Cert.Pre_Kernel2Ideal m) :
    ∃ a : (pcfg0 (F := Ideal)).Adm, Tabled a m ∧ Routed a := by
  let c₀ : Dev nD := ⟨0, by decide⟩
  obtain ⟨hb, hn⟩ := routed_words _ _ _ _ _ _ _ (h c₀)
  let pf : pre0.Contents (Elt Ideal) := fun j => m ((c₀ : Thread nD τ).loc (pre0.ref j))
  have h1 : 1 ≤ (used pf).toNat := (hn (ix1 (0 : Fin 1))).1
  have h2 : (used pf).toNat ≤ 24 := (hn (ix1 (0 : Fin 1))).2
  have h8 : ∀ b, (expert pf b).toNat < 8 := fun b => hb (ix1 b)
  refine ⟨⟨pf, inside pf h1 h2 h8⟩, fun c j => ?_, ⟨h1, h2, h8⟩⟩
  obtain rfl : c = c₀ := Subsingleton.elim _ _
  rfl

/-- Under the precondition every execution ends, the arguments unchanged and every counter at zero. -/
theorem quiescent [Cert.Pre_routed.Facts] : Cert.quiescent_Kernel2Ideal := fun m g h => by
  obtain ⟨a, hp, -⟩ := admissible m h
  exact framed a m g hp

end Cert.Kernel2Ideal.Moe

end
-- ==== Proof.MoeRef.lean ====
/- The expert feed-forward's reference at an entry: the block's expert is picked by the table's word, and a row of a used block is the
   expert's gated feed-forward of the row, times the row's gate. -/
module

public import proofs.«01_k».proof.Proof.Gen.Reference2Ideal.Run
public import proofs.«01_k».proof.Proof.Gen.Reference2Ideal.Read
public import Idealize.ShloMosaic.Lib.Pointwise
public import Idealize.ShloMosaic.Lib.ValueIdxCore
public import Idealize.ShloMosaic.Lib.WordCmp

@[expose] public section

set_option maxRecDepth 16384

noncomputable section

open Idealize.ShloMosaic Idealize.ShloMosaic.TcCoe

namespace Cert.MoeRef

open Cert.Reference2Ideal Cert.Reference2Ideal.Gen Cert.Reference2Ideal.Read

/-! ## The gather of whole slabs: one leading coordinate per block -/

section Slab
variable {α : Type} {E B M N : Nat}

/-- The dimension numbers of a gather that takes, for each of `B` words, the slab of a rank-3 operand the word numbers. -/
abbrev slab (wf : GatherDims.WF ⟨3, ![E, M, N]⟩ ⟨2, ![B, 1]⟩ ⟨3, ![B, M, N]⟩ [1, 2] [0] [] [0] [] 1 ![1, M, N]) :
    GatherDims ⟨3, ![E, M, N]⟩ ⟨2, ![B, 1]⟩ ⟨3, ![B, M, N]⟩ where
  offsetDims := [1, 2]
  collapsedSliceDims := [0]
  operandBatchingDims := []
  startIndicesBatchingDims := []
  startIndexMap := [0]
  indexVectorDim := 1
  sliceSizes := ![1, M, N]
  wf := wf

/-- An entry of the gathered slabs, where the block's word is the number `e` of a slab. -/
theorem slab_apply (wf : GatherDims.WF ⟨3, ![E, M, N]⟩ ⟨2, ![B, 1]⟩ ⟨3, ![B, M, N]⟩ [1, 2] [0] [] [0] [] 1 ![1, M, N])
    (x : (⟨3, ![E, M, N]⟩ : Shape).Idx → α) (z : IVec ⟨2, ![B, 1]⟩ 32) (b : Fin B) (e : Fin E) (k : Fin M) (j : Fin N)
    (he : (z (ix2 b (0 : Fin 1))).toInt.toNat = e.val) :
    Host.gather (slab wf) x z (ix3 b k j) = x (ix3 e k j) := by
  have hz : (slab wf).siIdx (ix3 b k j) ⟨0, Nat.one_pos⟩ = ix2 b (0 : Fin 1) := by
    funext d; refine Fin.ext ?_
    match d with
    | ⟨0, _⟩ => rfl
    | ⟨1, _⟩ => rfl
  unfold Host.gather
  congr 1
  funext d
  refine Fin.ext ?_
  show (slab wf).start (ix3 b k j) z d + (slab wf).batchCoord (ix3 b k j) d + (slab wf).offCoord (ix3 b k j) d = _
  rw [GatherDims.batchCoord_eq_zero _ _ _ List.not_mem_nil]
  match d with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (slab wf).startIndexMap from List.mem_singleton.mpr rfl)]
    show min (z ((slab wf).siIdx (ix3 b k j) ⟨0, Nat.one_pos⟩)).toInt.toNat (E - 1) + 0 + 0 = e.val
    rw [hz, he]
    have := e.isLt
    omega
  | ⟨1, _⟩ =>
    unfold GatherDims.start
    rw [dif_neg (fun h => absurd (congrArg Fin.val (List.mem_singleton.mp h)) (by decide : ¬ ((1 : ℕ) = 0)))]
    show 0 + 0 + k.val = k.val
    omega
  | ⟨2, _⟩ =>
    unfold GatherDims.start
    rw [dif_neg (fun h => absurd (congrArg Fin.val (List.mem_singleton.mp h)) (by decide : ¬ ((2 : ℕ) = 0)))]
    show 0 + 0 + j.val = j.val
    omega

end Slab

/-! ## The plain form of an entry -/

section Plain
variable (X : FVec Ideal S24576x2048 .bf16) (G U : FVec Ideal S8x2048x7168 .f32) (D : FVec Ideal S8x7168x2048 .f32)

/-- A row against a column of an expert's matrix. -/
def against (W : FVec Ideal S8x2048x7168 .f32) (e : Fin 8) (row : Fin 24576) (j : Fin 7168) : EReal :=
  ∑ k : Fin 2048, X (ix2 row k) * W (ix3 e k j)

/-- The silu of the first times the second. -/
def gated (p q : EReal) : EReal := p * Ideal.div 1 (1 + Ideal.exp (-p)) * q

/-- One hidden column's contribution to a row's feed-forward by an expert. -/
def term (e : Fin 8) (row : Fin 24576) (d : Fin 2048) (j : Fin 7168) : EReal :=
  gated (against X G e row j) (against X U e row j) * D (ix3 e j d)

end Plain

/-! ## The reference's stages at an index -/

/-- A row of a block, as a row of the array. -/
abbrev rowOf (b : Fin 24) (r : Fin 1024) : Fin 24576 := ⟨b.val * 1024 + r.val, by omega⟩

theorem toInt_small (x : BitVec 32) (n : ℕ) (h : x.toNat = n) (hn : n < 2 ^ 31) : x.toInt = n := by
  have := BitVec.toInt_eq_toNat_cond x
  split at this <;> omega

theorem not_negative (x : BitVec 32) (h : x.toNat < 8) : IntOp.cmpi .slt x 0#32 = 0#1 := by
  have e := toInt_small x _ rfl (by omega)
  have e0 : (0#32 : BitVec 32).toInt = 0 := by decide
  rw [WordCmp.cmpi_slt_eq, e, e0, decide_eq_false (by omega)]
  rfl

variable (be : IVec S24 32) (b : Fin 24) (e : Fin 8) (he : (be (ix1 b)).toNat = e.val)

include he in
theorem word_at : (val_main_v7 (F := Ideal) be (ix2 b (0 : Fin 1))).toInt.toNat = e.val := by
  have h : val_main_v7 (F := Ideal) be (ix2 b (0 : Fin 1)) = be (ix1 b) := by
    rw [val_main_v7_apply, val_main_v6_apply, val_main_v3_apply]
    have hi : idx_main_v7 (ix2 b (0 : Fin 1)) = ix1 b := funext fun d => Fin.ext (by match d with | ⟨0, _⟩ => rfl)
    rw [hi, val_main_v2_apply]
    show Scalar.select (IntOp.cmpi .slt (be (ix1 b)) 0#32) _ _ = _
    rw [not_negative _ (by omega)]
    rfl
  rw [h, toInt_small _ _ he (by omega)]
  rfl

include he in
theorem pick_up (W : FVec Ideal S8x2048x7168 .f32) (k : Fin 2048) (j : Fin 7168) :
    val_main_v8 (F := Ideal) be W (ix3 b k j) = W (ix3 e k j) :=
  slab_apply gather_S8x2048x7168_S24x1_S24x2048x7168_12_0_n_n_0_1_120487168.wf W _ b e k j (word_at be b e he)

include he in
theorem pick_down (W : FVec Ideal S8x7168x2048 .f32) (j : Fin 7168) (d : Fin 2048) :
    val_main_v26 (F := Ideal) be W (ix3 b j d) = W (ix3 e j d) :=
  slab_apply gather_S8x7168x2048_S24x1_S24x7168x2048_12_0_n_n_0_1_171682048.wf W _ b e j d (word_at be b e he)

variable (X : FVec Ideal S24576x2048 .bf16) (g : FVec Ideal S24576x1 .f32) (nu : IVec S1 32) (G U : FVec Ideal S8x2048x7168 .f32)
    (D : FVec Ideal S8x7168x2048 .f32) (r : Fin 1024) (d : Fin 2048)

include he in
theorem against_at (W : FVec Ideal S8x2048x7168 .f32) (j : Fin 7168) :
    val_main_v9 (F := Ideal) X be W (ix3 b r j) = against X W e (rowOf b r) j := by
  rw [val_main_v9_apply]
  unfold against
  refine Finset.sum_congr rfl fun k _ => congrArg₂ _ ?_ ?_
  · rw [val_main_v1_apply, val_main_v0_apply]
    refine congrArg X (funext fun a => Fin.ext ?_)
    match a with
    | ⟨0, _⟩ => show ((b.val * 1024 + r.val) * 2048 + k.val) / 2048 = b.val * 1024 + r.val; omega
    | ⟨1, _⟩ => show ((b.val * 1024 + r.val) * 2048 + k.val) % 2048 = k.val; omega
  · refine Eq.trans (congrArg _ (funext fun a => Fin.ext ?_)) (pick_up be b e he W k j)
    match a with
    | ⟨0, _⟩ => rfl
    | ⟨1, _⟩ => rfl
    | ⟨2, _⟩ => rfl

include he in
theorem gated_at (j : Fin 7168) :
    val_main_v19 (F := Ideal) X be G U (ix3 b r j) = gated (against X G e (rowOf b r) j) (against X U e (rowOf b r) j) := by
  have hG := against_at be b e he X r G j
  have hU : val_main_v17 (F := Ideal) X be U (ix3 b r j) = _ := against_at be b e he X r U j
  have h1 : (FloatOps.ofBits .f32 0x3F800000#32 : Ideal .f32) = (1 : EReal) := by pointwise
  rw [val_main_v19_apply, val_main_v18_apply, val_main_call0_v5_apply, val_main_call0_v4_apply, val_main_call0_cst_0_apply, val_main_call0_v3_apply,
    val_main_call0_v2_apply, val_main_call0_cst_apply, val_main_call0_v1_apply, val_main_call0_v0_apply, hG, hU, h1]
  rfl

include he in
theorem summed_at :
    val_main_v27 (F := Ideal) X be G U D (ix3 b r d) = ∑ j : Fin 7168, term X G U D e (rowOf b r) d j := by
  rw [val_main_v27_apply]
  refine Finset.sum_congr rfl fun j _ => congrArg₂ _ ?_ ?_
  · refine Eq.trans (congrArg _ (funext fun a => Fin.ext ?_)) (gated_at be b e he X G U r j)
    match a with
    | ⟨0, _⟩ => rfl
    | ⟨1, _⟩ => rfl
    | ⟨2, _⟩ => rfl
  · refine Eq.trans (congrArg _ (funext fun a => Fin.ext ?_)) (pick_down be b e he D j d)
    match a with
    | ⟨0, _⟩ => rfl
    | ⟨1, _⟩ => rfl
    | ⟨2, _⟩ => rfl

/-- The condition of a row: whether its block is among the used ones. -/
theorem used_at (hn : (nu (ix1 (0 : Fin 1))).toNat ≤ 24) (i : S24x1x1.Idx) :
    val_main_v32 (F := Ideal) nu i = if (i 0).val < (nu (ix1 (0 : Fin 1))).toNat then 1#1 else 0#1 := by
  have hi : (i 0).val < 24 := (i 0).isLt
  have h30 (z : S_.Idx) : val_main_v30 (F := Ideal) nu z = nu (ix1 (0 : Fin 1)) := congrArg nu (funext fun a => by fin_cases a; exact Subsingleton.elim (α := Fin 1) _ _)
  rw [val_main_v32_apply, val_main_v29_apply, val_main_v28_apply, val_main_v31_apply, h30, WordCmp.cmpi_slt_eq,
    toInt_small _ _ rfl (show (nu (ix1 (0 : Fin 1))).toNat < 2 ^ 31 by omega),
    toInt_small (BitVec.ofNat 32 (i 0).val) (i 0).val (by rw [BitVec.toNat_ofNat]; omega) (by omega)]
  by_cases h : (i 0).val < (nu (ix1 (0 : Fin 1))).toNat
  · rw [if_pos h, decide_eq_true (by exact_mod_cast h)]; rfl
  · rw [if_neg h, decide_eq_false (by exact_mod_cast h)]; rfl

include he in
/-- An entry of the reference's result. -/
theorem entry (hn : (nu (ix1 (0 : Fin 1))).toNat ≤ 24) :
    val_main_v36 (F := Ideal) X g be nu G U D (ix2 (rowOf b r) d)
    = (if b.val < (nu (ix1 (0 : Fin 1))).toNat then ∑ j : Fin 7168, term X G U D e (rowOf b r) d j else 0) * g (ix2 (rowOf b r) (0 : Fin 1)) := by
  have h0 : (FloatOps.ofBits .f32 0x00000000#32 : Ideal .f32) = (0 : EReal) := by pointwise
  have hi : idx_main_v34 (ix2 (rowOf b r) d) = ix3 b r d := by
    refine funext fun a => Fin.ext ?_
    match a with
    | ⟨0, _⟩ => show ((b.val * 1024 + r.val) * 2048 + d.val) / 2097152 = b.val; omega
    | ⟨1, _⟩ => show ((b.val * 1024 + r.val) * 2048 + d.val) / 2048 % 1024 = r.val; omega
    | ⟨2, _⟩ => show ((b.val * 1024 + r.val) * 2048 + d.val) % 2048 = d.val; omega
  have hg : idx_main_v35 (ix2 (rowOf b r) d) = ix2 (rowOf b r) (0 : Fin 1) := by
    refine funext fun a => Fin.ext ?_
    match a with
    | ⟨0, _⟩ => rfl
    | ⟨1, _⟩ => rfl
  rw [val_main_v36_apply, val_main_v34_apply, hi, val_main_v33_apply, val_main_call1_v1_apply, used_at nu hn, summed_at be b e he X G U D r d,
    val_main_call1_v2_apply, val_main_call1_v0_apply, val_main_v35_apply, hg]
  refine congrArg₂ (fun p q : EReal => p * q) ?_ rfl
  show Scalar.select (if b.val < _ then 1#1 else 0#1) _ _ = _
  split
  · rfl
  · exact h0

end Cert.MoeRef

end
-- ==== Proof.MoeValue.lean ====
/- The expert feed-forward's kernel, its result against the reference's. -/
module

public import proofs.«01_k».proof.Proof.MoeTablesIdeal
public import proofs.«01_k».proof.Proof.MoeRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MoeValue

open Cert.Kernel2Ideal Cert.Kernel2Ideal.Gen Cert.Kernel2Ideal.Moe
open Cert.MoeRef (against gated term rowOf)

variable (a : (pcfg0 (F := Ideal)).Adm) (hr : Routed a)
variable (m : (ℓ : Loc nD τ sig) → Buf (Elt Ideal) ℓ) (ρ : Dev nD → PrngReg)

/-- A grid point's row block and its tile of the hidden axis. -/
theorem coords : ∀ t : Fin grid0.N, (grid0.coords t 0).val = t.val / 28 ∧ (grid0.coords t 1).val = t.val % 28 ∧ t.val / 28 < 24 ∧ t.val % 28 < 28 := by
  decide +kernel

/-! ## Where each window's block lies, and what it holds in a used row block -/

include hr in
theorem idx0 (t : Fin (cfgT a).N) : ((cfgT a).win 0).index t = ![min (t.val / 28) ((used a.1).toNat - 1), 0] :=
  (at0 a.1 hr.some hr.most (pt a t)).trans (by rw [show ((pt a t) 0).val = t.val / 28 from (coords t).1])

include hr in
theorem idx1 (t : Fin (cfgT a).N) : ((cfgT a).win 1).index t = ![min (t.val / 28) ((used a.1).toNat - 1), 0] :=
  (at1 a.1 hr.some hr.most (pt a t)).trans (by rw [show ((pt a t) 0).val = t.val / 28 from (coords t).1])

theorem tile_used (t : Fin (cfgT a).N) (hu : t.val / 28 < (used a.1).toNat) : tileOf a.1 (pt a t) = t.val % 28 := by
  unfold tileOf
  rw [if_pos (show ((pt a t) 0).val < _ by rw [show ((pt a t) 0).val = t.val / 28 from (coords t).1]; exact hu)]
  exact (coords t).2.1

theorem block_of (t : Fin (cfgT a).N) (b : Fin 24) (hb : t.val / 28 = b.val) : (pt a t) 0 = b :=
  Fin.ext (((coords t).1).trans hb)

include hr in
theorem idx2 (t : Fin (cfgT a).N) (b : Fin 24) (hb : t.val / 28 = b.val) (hu : b.val < (used a.1).toNat) :
    ((cfgT a).win 2).index t = ![(expert a.1 b).toNat, 0, t.val % 28] :=
  (at2 a.1 hr.most (pt a t)).trans (by rw [tile_used a t (hb ▸ hu), block_of a t b hb])

include hr in
theorem idx3 (t : Fin (cfgT a).N) (b : Fin 24) (hb : t.val / 28 = b.val) (hu : b.val < (used a.1).toNat) :
    ((cfgT a).win 3).index t = ![(expert a.1 b).toNat, 0, t.val % 28] :=
  (at3 a.1 hr.most (pt a t)).trans (by rw [tile_used a t (hb ▸ hu), block_of a t b hb])

include hr in
theorem idx4 (t : Fin (cfgT a).N) (b : Fin 24) (hb : t.val / 28 = b.val) (hu : b.val < (used a.1).toNat) :
    ((cfgT a).win 4).index t = ![(expert a.1 b).toNat, t.val % 28, 0] :=
  (at4 a.1 hr.most (pt a t)).trans (by rw [tile_used a t (hb ▸ hu), block_of a t b hb])

theorem idx5 (t : Fin (cfgT a).N) : ((cfgT a).win 5).index t = ![t.val / 28, 0] :=
  (by decide +kernel : ∀ t : Fin grid0.N, cc0_transform_5 (grid0.coords t) = ![t.val / 28, 0]) t

section Block
variable (c : Dev nD) (t : Fin (cfgT a).N) (b : Fin 24) (hb : t.val / 28 = b.val) (hu : b.val < (used a.1).toNat) (e : Fin 8)
    (he : (expert a.1 b).toNat = e.val) (r : Fin 1024)

include hr hb hu in
theorem row_block (k : Fin 2048) :
    iblk a m ρ c 0 t (ix2 r k) = m ((c : Thread nD τ).loc main_arg0) (ix2 (rowOf b r) k) := by
  have h := idx0 a hr t
  blk_ext [iblk, h]

include hr hb hu in
theorem gate_block : iblk a m ρ c 1 t (ix2 r (0 : Fin 1)) = m ((c : Thread nD τ).loc main_arg1) (ix2 (rowOf b r) (0 : Fin 1)) := by
  have h := idx1 a hr t
  blk_ext [iblk, h]

include hr hb hu he in
theorem first_block (k : Fin 2048) (j : Fin 256) : iblk a m ρ c 2 t (ix3 (0 : Fin 1) k j)
    = m ((c : Thread nD τ).loc main_arg4) (ix3 e k ⟨t.val % 28 * 256 + j.val, by omega⟩) := by
  have h := idx2 a hr t b hb hu
  blk_ext [iblk, h]

include hr hb hu he in
theorem second_block (k : Fin 2048) (j : Fin 256) : iblk a m ρ c 3 t (ix3 (0 : Fin 1) k j)
    = m ((c : Thread nD τ).loc main_arg5) (ix3 e k ⟨t.val % 28 * 256 + j.val, by omega⟩) := by
  have h := idx3 a hr t b hb hu
  blk_ext [iblk, h]

include hr hb hu he in
theorem last_block (j : Fin 256) (d : Fin 2048) : iblk a m ρ c 4 t (ix3 (0 : Fin 1) j d)
    = m ((c : Thread nD τ).loc main_arg6) (ix3 e ⟨t.val % 28 * 256 + j.val, by omega⟩ d) := by
  have h := idx4 a hr t b hb hu
  blk_ext [iblk, h]

end Block

/-! ## The body's steps at an entry -/

/-- One tile's contribution to an entry. -/
def tile (c : Dev nD) (e : Fin 8) (row : Fin 24576) (d : Fin 2048) (s : Fin 28) : EReal :=
  ∑ j : Fin 256, term (m ((c : Thread nD τ).loc main_arg0)) (m ((c : Thread nD τ).loc main_arg4)) (m ((c : Thread nD τ).loc main_arg5))
    (m ((c : Thread nD τ).loc main_arg6)) e row d ⟨s.val * 256 + j.val, by omega⟩

/-- The gate of a row. -/
def gate (c : Dev nD) (row : Fin 24576) : EReal := m ((c : Thread nD τ).loc main_arg1) (ix2 row (0 : Fin 1))

theorem zeroed (r : Fin 1024) (d : Fin 2048) : k0_pay1 (F := Ideal) (ix2 r d) = (0 : EReal) := by
  pointwise [k0_pay1]

section Step
variable (c : Dev nD) (t : Fin (cfgT a).N) (b : Fin 24) (hb : t.val / 28 = b.val) (hu : b.val < (used a.1).toNat) (e : Fin 8)
    (he : (expert a.1 b).toNat = e.val) (r : Fin 1024) (d : Fin 2048)

include hr hb hu he in
theorem added (acc : FVec Ideal S1024x2048 .f32) :
    k0_pay2 (F := Ideal) acc (iblk a m ρ c 0 t) (iblk a m ρ c 2 t) (iblk a m ρ c 3 t) (iblk a m ρ c 4 t) (ix2 r d)
    = acc (ix2 r d) + tile m c e (rowOf b r) d ⟨t.val % 28, by omega⟩ := by
  have h0 := row_block a hr m ρ c t b hb hu r
  have h2 := first_block a hr m ρ c t b hb hu e he
  have h3 := second_block a hr m ρ c t b hb hu e he
  have h4 := last_block a hr m ρ c t b hb hu e he
  unfold tile term gated against
  pointwise [k0_pay2]
  simp only [h0, h2, h3, h4]
  rfl

include hr hb hu in
theorem scaled (acc : FVec Ideal S1024x2048 .f32) :
    k0_pay3 (F := Ideal) acc (iblk a m ρ c 1 t) (ix2 r d) = acc (ix2 r d) * gate m c (rowOf b r) := by
  have h1 := gate_block a hr m ρ c t b hb hu r
  unfold gate
  pointwise [k0_pay3]
  rw [h1]

end Step

/-! ## What the result's block holds, point by point -/

theorem word_used : word (a.1 1) = used a.1 := congrArg (a.1 1) (funext fun d => Fin.ext (by fin_cases d; rfl))

include hr in
theorem adds (t : Fin (cfgT a).N) : k0_cond2 (pt a t) (word (a.1 1)) = 1#1 ↔ t.val / 28 < (used a.1).toNat := by
  rw [word_used]
  refine (cond2_iff (pt a t) (used a.1) hr.most).trans ?_
  rw [show ((pt a t) 0).val = t.val / 28 from (coords t).1]

include hr in
theorem scales (t : Fin (cfgT a).N) : k0_cond3 (pt a t) (word (a.1 1)) = 1#1 ↔ t.val / 28 < (used a.1).toNat ∧ t.val % 28 = 27 := by
  rw [word_used]
  refine (cond3_iff (pt a t) (used a.1) hr.most).trans ?_
  rw [show ((pt a t) 0).val = t.val / 28 from (coords t).1, show ((pt a t) 1).val = t.val % 28 from (coords t).2.1]

include hr in
/-- In a used row block a point adds its tile, from zero at the first, and multiplies by the gate after the last. -/
theorem step_used (c : Dev nD) (t : Fin (cfgT a).N) (b : Fin 24) (hb : t.val / 28 = b.val) (hu : b.val < (used a.1).toNat) (e : Fin 8)
    (he : (expert a.1 b).toNat = e.val) (r : Fin 1024) (d : Fin 2048) (xo : Vec Ideal S1024x2048 .f32) :
    stepAt a m ρ c t xo (ix2 r d)
    = ((if t.val % 28 = 0 then (0 : EReal) else xo (ix2 r d)) + tile m c e (rowOf b r) d ⟨t.val % 28, by omega⟩)
      * (if t.val % 28 = 27 then gate m c (rowOf b r) else 1) := by
  have h2 : k0_cond2 (pt a t) (word (a.1 1)) = 1#1 := (adds a hr t).2 (hb ▸ hu)
  have h1 := first_tile t
  have h3 := scales a hr t
  unfold stepAt step
  simp only [if_pos h2]
  by_cases hl : t.val % 28 = 27
  · have h1' : ¬ k0_cond1 (pt a t) = 1#1 := fun h => by have := h1.1 h; omega
    rw [if_pos (h3.2 ⟨hb ▸ hu, hl⟩), if_pos hl, if_neg h1', if_neg (show ¬ t.val % 28 = 0 by omega)]
    refine (scaled a hr m ρ c t b hb hu r d _).trans (congrArg (fun p : EReal => p * gate m c (rowOf b r)) ?_)
    exact added a hr m ρ c t b hb hu e he r d _
  · rw [if_neg (fun h => hl (h3.1 h).2), if_neg hl, mul_one]
    refine (added a hr m ρ c t b hb hu e he r d _).trans (congrArg (fun p : EReal => p + _) ?_)
    by_cases hf : t.val % 28 = 0
    · rw [if_pos (h1.2 hf), if_pos hf]; exact zeroed r d
    · rw [if_neg (fun h => hf (h1.1 h)), if_neg hf]

include hr in
/-- In an unused row block a point only zeroes, at the first tile. -/
theorem step_unused (c : Dev nD) (t : Fin (cfgT a).N) (hu : (used a.1).toNat ≤ t.val / 28) (r : Fin 1024) (d : Fin 2048) (xo : Vec Ideal S1024x2048 .f32) :
    stepAt a m ρ c t xo (ix2 r d) = if t.val % 28 = 0 then (0 : EReal) else xo (ix2 r d) := by
  have h1 := first_tile t
  unfold stepAt step
  simp only [if_neg (fun h => absurd ((adds a hr t).1 h) (by omega)), if_neg (fun h => absurd ((scales a hr t).1 h).1 (by omega))]
  by_cases hf : t.val % 28 = 0
  · rw [if_pos (h1.2 hf), if_pos hf]; exact zeroed r d
  · rw [if_neg (fun h => hf (h1.1 h)), if_neg hf]

theorem held_succ (c : Dev nD) (n : ℕ) (h : n + 1 < (cfgT a).N) :
    held a m ρ c (n + 1) h = stepAt a m ρ c ⟨n + 1, h⟩ (held a m ρ c n (Nat.lt_of_succ_lt h)) := rfl

include hr in
/-- A used row block after a point: its tiles so far, times the gate once all are in. -/
theorem held_used (c : Dev nD) (b : Fin 24) (hu : b.val < (used a.1).toNat) (e : Fin 8) (he : (expert a.1 b).toNat = e.val)
    (r : Fin 1024) (d : Fin 2048) : ∀ (n : ℕ) (h : n < (cfgT a).N) (hb : n / 28 = b.val),
    held a m ρ c n h (ix2 r d)
    = (∑ s ∈ Finset.range (n % 28 + 1), if hs : s < 28 then tile m c e (rowOf b r) d ⟨s, hs⟩ else 0)
      * (if n % 28 = 27 then gate m c (rowOf b r) else 1) := by
  have first (t : Fin (cfgT a).N) (hb : t.val / 28 = b.val) (hf : t.val % 28 = 0) (xo : Vec Ideal S1024x2048 .f32) :
      stepAt a m ρ c t xo (ix2 r d)
      = (∑ s ∈ Finset.range (t.val % 28 + 1), if hs : s < 28 then tile m c e (rowOf b r) d ⟨s, hs⟩ else 0)
        * (if t.val % 28 = 27 then gate m c (rowOf b r) else 1) := by
    rw [step_used a hr m ρ c t b hb hu e he r d xo]
    simp only [hf, if_true, zero_add, Finset.sum_range_one]
    rfl
  intro n
  induction n with
  | zero => exact fun h hb => first ⟨0, h⟩ hb rfl _
  | succ n ih =>
    intro h hb
    rw [held_succ]
    by_cases hf : (n + 1) % 28 = 0
    · exact first ⟨n + 1, h⟩ hb hf _
    · have e1 : n / 28 = b.val := by omega
      have e2 : (n + 1) % 28 = n % 28 + 1 := by omega
      have hi := ih (Nat.lt_of_succ_lt h) e1
      rw [if_neg (show ¬ n % 28 = 27 by omega), mul_one] at hi
      refine (step_used a hr m ρ c ⟨n + 1, h⟩ b hb hu e he r d _).trans ?_
      rw [Finset.sum_range_succ, dif_pos (show (n + 1) % 28 < 28 by omega)]
      refine congrArg (fun p : EReal => p * _) (congrArg (fun p : EReal => p + _) ?_)
      rw [if_neg hf, hi, e2]

include hr in
/-- An unused row block holds zeros. -/
theorem held_unused (c : Dev nD) (r : Fin 1024) (d : Fin 2048) : ∀ (n : ℕ) (h : n < (cfgT a).N) (hu : (used a.1).toNat ≤ n / 28),
    held a m ρ c n h (ix2 r d) = (0 : EReal) := by
  intro n
  induction n with
  | zero => exact fun h hu => (step_unused a hr m ρ c ⟨0, h⟩ hu r d _).trans (if_pos rfl)
  | succ n ih =>
    intro h hu
    rw [held_succ]
    refine (step_unused a hr m ρ c ⟨n + 1, h⟩ hu r d _).trans ?_
    by_cases hf : (n + 1) % 28 = 0
    · exact if_pos hf
    · exact (if_neg hf).trans (ih (Nat.lt_of_succ_lt h) (by omega))

/-! ## The result array -/

/-- Every block of the result is written back after its run's last point. -/
theorem covers : ((cfgT a).win 5).Covers := by
  refine ⟨fun d => by
    fin_cases d
    · exact (by decide : 0 < 1024)
    · exact (by decide : 0 < 2048), fun β => ?_⟩
  have h0 : (β (0 : Fin 2)).val < 24 := lt_of_lt_of_eq (β (0 : Fin 2)).isLt (by show Nat.div (24576 + 1024 - 1) 1024 = 24; decide)
  have h1 : (β (1 : Fin 2)).val < 1 := lt_of_lt_of_eq (β (1 : Fin 2)).isLt (by show Nat.div (2048 + 2048 - 1) 2048 = 1; decide)
  refine ⟨⟨(β (0 : Fin 2)).val * 28 + 27, by show _ < 672; omega⟩, ?_, fun d => ⟨?_, .inl rfl⟩⟩
  · rw [flush5]; exact decide_eq_true (show ((β (0 : Fin 2)).val * 28 + 27) % 28 = 27 by omega)
  · rw [idx5]
    fin_cases d
    · show ((β (0 : Fin 2)).val * 28 + 27) / 28 = (β (0 : Fin 2)).val; omega
    · show 0 = (β (1 : Fin 2)).val; omega

/-- The tiles of the hidden axis make up its whole sum. -/
theorem tiles (c : Dev nD) (e : Fin 8) (row : Fin 24576) (d : Fin 2048) :
    (∑ s : Fin (27 + 1), if hs : s.val < 28 then tile m c e row d ⟨s.val, hs⟩ else 0)
    = ∑ j : Fin 7168, term (m ((c : Thread nD τ).loc main_arg0)) (m ((c : Thread nD τ).loc main_arg4)) (m ((c : Thread nD τ).loc main_arg5))
        (m ((c : Thread nD τ).loc main_arg6)) e row d j := by
  refine (Finset.sum_congr rfl fun s _ => dif_pos s.isLt).trans ?_
  unfold tile
  exact Fin.sum_mul_add_congr fun s k hl => rfl

include hr in
/-- The result array after the run is the reference's term of the arguments. -/
theorem final (hp : Tabled a m) (c : Dev nD) : (dats a m ρ 0 c).arrAt 5 (cfgT a).N
    = Cert.Reference2Ideal.Read.val_main_v36 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  have hbe : (m ((c : Thread nD τ).loc main_arg2) : S24.Idx → BitVec 32) = a.1 0 := hp c 0
  have hnu : (m ((c : Thread nD τ).loc main_arg3) : S1.Idx → BitVec 32) = a.1 1 := hp c 1
  refine (dats a m ρ 0 c).arrAt_eq_of_covers 5 _ (covers a) fun t hf (y : S1024x2048.Idx) => ?_
  have hl : t.val % 28 = 27 := by rw [flush5] at hf; exact of_decide_eq_true hf
  have hi := idx5 a t
  have hb : t.val / 28 < 24 := (coords t).2.2.1
  refine Eq.trans (b := held a m ρ c t.val t.isLt (ix2 (y 0) (y 1))) (congrArg (held a m ρ c t.val t.isLt) (ix2_eta y).symm) ?_
  refine Eq.trans ?_ (congrArg (Cert.Reference2Ideal.Read.val_main_v36 (F := Ideal) _ _ _ _ _ _ _)
    (show ix2 (rowOf ⟨t.val / 28, hb⟩ (y 0)) (y 1) = _ by blk_ext [hi]))
  generalize (y 0 : Fin 1024) = r
  generalize (y 1 : Fin 2048) = d
  have he : ((m ((c : Thread nD τ).loc main_arg2) : S24.Idx → BitVec 32) (ix1 (⟨t.val / 28, hb⟩ : Fin 24))).toNat
      = (⟨(expert a.1 ⟨t.val / 28, hb⟩).toNat, hr.eight _⟩ : Fin 8).val := by rw [hbe]
  have hm : ((m ((c : Thread nD τ).loc main_arg3) : S1.Idx → BitVec 32) (ix1 (0 : Fin 1))).toNat = (used a.1).toNat := by rw [hnu]
  refine Eq.trans ?_ (Cert.MoeRef.entry _ _ _ he _ _ _ _ _ _ r d (hm ▸ hr.most)).symm
  rw [hm]
  by_cases hu : t.val / 28 < (used a.1).toNat
  · rw [if_pos hu, held_used a hr m ρ c ⟨t.val / 28, hb⟩ hu ⟨_, hr.eight _⟩ rfl r d t.val t.isLt rfl, hl, if_pos rfl, Finset.sum_range]
    refine congrArg (fun p : EReal => p * _) ?_
    exact tiles m c _ _ d
  · rw [if_neg hu, zero_mul]
    exact held_unused a hr m ρ c r d t.val t.isLt (Nat.le_of_not_lt hu)

end Cert.MoeValue

end
-- ==== Proof.MoeClaim.lean ====
/- The value claim of the expert feed-forward: under the routing tables' range both programs end at the reference's term of the arguments. -/
module

public import proofs.«01_k».proof.Defs
public import proofs.«01_k».proof.Proof.MoeValue
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MoeValue

open Cert.Kernel2Ideal.Moe (admissible run)

/-- The kernel's and the reference's results are equal for equal arguments. -/
theorem algebraic [Cert.Pre_routed.Facts] : Cert.algebraic_Kernel2Ideal_Reference2Ideal := by
  intro m g m' g' hpre hagree
  obtain ⟨a, hp, hr⟩ := admissible m hpre
  refine ⟨fun c => Cert.Reference2Ideal.Read.val_main_v36 (F := Ideal) (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)), ?_, ?_⟩
  · exact (θ_run _ _ _).mono (fun r h c => ⟨((h.2 c).1 (5 : Fin 6)).trans (final a hr m g hp c), h.1 c⟩)
      (θ_run_and (Cert.Kernel2Ideal.Moe.unchanged a m g hp) (run a m g hp))
  · run_from Cert.Reference2Ideal.Value.run m' g'
    rfl

/-- The reference terminates and leaves its arguments unchanged. -/
theorem quiescent : Cert.quiescent_Reference2Ideal := by
  intro m g _
  exact (θ_run _ _ _).mono (fun r h => ⟨fun c => (h c).2, sem_eq_zero_of_no_sems rfl r.2⟩) (Cert.Reference2Ideal.Value.run m g)

/-- The same under the tables' range. -/
theorem quiescent_routed [Cert.Pre_routed.Facts] : Cert.quiescent_Reference2Ideal_pre_routed := by
  intro m g _
  exact (θ_run _ _ _).mono (fun r h => ⟨fun c => (h c).2, sem_eq_zero_of_no_sems rfl r.2⟩) (Cert.Reference2Ideal.Value.run m g)

end Cert.MoeValue

end
-- ==== Proof.Dense.lean ====
/- The dense feed-forward: at the first tile of a row block the body norms the rows, keeps them and starts the result rows
   from the residual; every tile of the hidden axis adds its gated product. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Dense

open Cert.Kernel3Ideal Cert.Kernel3Ideal.Gen

variable (m : (ℓ : Loc nD τ sig) → Buf (Elt Ideal) ℓ)

/-- The rows with their root mean square divided out and the norm's weights multiplied in: the reference's lines. -/
def NORM (X : FVec Ideal Cert.Reference3Ideal.S8192x2048 .f32) (n : FVec Ideal Cert.Reference3Ideal.S2048 .f32) :
    FVec Ideal Cert.Reference3Ideal.S8192x2048 .f32 :=
  mulf (mulf X (broadcastInDim Cert.Reference3Ideal.S8192x2048 ![0, 1] Cert.Reference3Ideal.Gen.bcast_S8192x1_S8192x2048_0_1
    (Host.rsqrt (addf (Host.divf (broadcastInDim Cert.Reference3Ideal.S8192x1 ![0] Cert.Reference3Ideal.Gen.bcast_S8192_S8192x1_0
      (Host.reduceAdd (mulf X X) (constant Cert.Reference3Ideal.S_ .f32 0x00000000#32)
        Cert.Reference3Ideal.Gen.reducesTo_S8192x2048_S8192_d1 Cert.Reference3Ideal.Gen.h_S_))
      (broadcastInDim Cert.Reference3Ideal.S8192x1 ![] Cert.Reference3Ideal.Gen.bcast_S_S8192x1 (constant Cert.Reference3Ideal.S_ .f32 0x45000000#32)))
      (broadcastInDim Cert.Reference3Ideal.S8192x1 ![] Cert.Reference3Ideal.Gen.bcast_S_S8192x1 (constant Cert.Reference3Ideal.S_ .f32 0x358637BD#32))))))
    (broadcastInDim Cert.Reference3Ideal.S8192x2048 ![0, 1] Cert.Reference3Ideal.Gen.bcast_S1x2048_S8192x2048_0_1
      (broadcastInDim Cert.Reference3Ideal.S1x2048 ![1] Cert.Reference3Ideal.Gen.bcast_S2048_S1x2048_1 n))

/-- The gated hidden values: the silu of the gate product times the up product, the reference's lines. -/
def HID (X : FVec Ideal Cert.Reference3Ideal.S8192x2048 .f32) (n : FVec Ideal Cert.Reference3Ideal.S2048 .f32) (G U : FVec Ideal Cert.Reference3Ideal.S2048x7168 .f32) :
    FVec Ideal Cert.Reference3Ideal.S8192x7168 .f32 :=
  mulf (mulf (Host.dotGeneral Cert.Reference3Ideal.dot_S8192x2048_S2048x7168_S8192x7168_1_0_0_1_n_n none (NORM X n) G)
    (Host.divf (broadcastInDim Cert.Reference3Ideal.S8192x7168 ![] Cert.Reference3Ideal.Gen.bcast_S_S8192x7168 (constant Cert.Reference3Ideal.S_ .f32 0x3F800000#32))
      (addf (broadcastInDim Cert.Reference3Ideal.S8192x7168 ![] Cert.Reference3Ideal.Gen.bcast_S_S8192x7168 (constant Cert.Reference3Ideal.S_ .f32 0x3F800000#32))
        (Host.exp (Host.negf (Host.dotGeneral Cert.Reference3Ideal.dot_S8192x2048_S2048x7168_S8192x7168_1_0_0_1_n_n none (NORM X n) G))))))
    (Host.dotGeneral Cert.Reference3Ideal.dot_S8192x2048_S2048x7168_S8192x7168_1_0_0_1_n_n none (NORM X n) U)

/-- The reference's term over the rows, the norm's weights and the three matrices. -/
def REF (X : FVec Ideal Cert.Reference3Ideal.S8192x2048 .f32) (n : FVec Ideal Cert.Reference3Ideal.S2048 .f32) (G U : FVec Ideal Cert.Reference3Ideal.S2048x7168 .f32)
    (D : FVec Ideal Cert.Reference3Ideal.S7168x2048 .f32) : FVec Ideal Cert.Reference3Ideal.S8192x2048 .f32 :=
  addf X (Host.dotGeneral Cert.Reference3Ideal.dot_S8192x7168_S7168x2048_S8192x2048_1_0_0_1_n_n none (HID X n G U) D)

/-- Where each window's block lies at a grid point. -/
theorem idx : ∀ t : Fin cfg0.N, win0_0.index t = ![t.val / 28, 0] ∧ win0_1.index t = ![0, 0] ∧ win0_2.index t = ![0, t.val % 28]
    ∧ win0_3.index t = ![0, t.val % 28] ∧ win0_4.index t = ![t.val % 28, 0] ∧ win0_5.index t = ![t.val / 28, 0]
    ∧ t.val / 28 < 16 ∧ t.val % 28 < 28 :=
  (by decide +kernel : ∀ t : Fin grid0.N, _)

/-- A normed row of a block is the normed row of the array. -/
theorem normed (c : Dev nD) (t : Fin cfg0.N) (r : Fin 512) (k : Fin 2048) (hr : t.val / 28 * 512 + r.val < 8192) :
    k0_pay1 (F := Ideal) (iblk m c 0 t) (iblk m c 1 t) (ix2 r k)
    = NORM (m ((c : Thread nD τ).loc main_arg0)) (m ((c : Thread nD τ).loc main_arg1)) (ix2 ⟨t.val / 28 * 512 + r.val, hr⟩ k) := by
  pointwise [k0_pay1, NORM]
  blk_point [iblk, V, idx t]

/-- A residual row of a block is the row of the array. -/
theorem resid (c : Dev nD) (t : Fin cfg0.N) (r : Fin 512) (k : Fin 2048) (hr : t.val / 28 * 512 + r.val < 8192) :
    iblk m c 0 t (ix2 r k) = m ((c : Thread nD τ).loc main_arg0) (ix2 ⟨t.val / 28 * 512 + r.val, hr⟩ k) := by
  blk_ext [iblk, V, idx t]

/-- What the kept rows hold after a point: the normed rows of its row block. -/
theorem kept (c : Dev nD) : ∀ (n : ℕ) (h : n < cfg0.N) (r : Fin 512) (k : Fin 2048) (hr : n / 28 * 512 + r.val < 8192),
    (outsAt0 m c n h).2 (ix2 r k)
    = NORM (m ((c : Thread nD τ).loc main_arg0)) (m ((c : Thread nD τ).loc main_arg1)) (ix2 ⟨n / 28 * 512 + r.val, hr⟩ k) := by
  intro n
  induction n with
  | zero =>
    intro h r k hr
    rw [outsAt0_A m c ⟨0, h⟩ rfl]; frame_out
    exact normed m c ⟨0, h⟩ r k hr
  | succ n ih =>
    intro h r k hr
    by_cases hA : (n + 1) % 28 = 0
    · rw [outsAt0_A m c ⟨n + 1, h⟩ hA]; frame_out
      exact normed m c ⟨n + 1, h⟩ r k hr
    · rw [outsAt0_B m c ⟨n + 1, h⟩ hA]; frame_out
      have e : (n + 1) / 28 = n / 28 := by omega
      refine (ih (Nat.lt_of_succ_lt h) r k (e ▸ hr)).trans ?_
      simp only [e]

/-- The residual of a result entry. -/
def res (c : Dev nD) (row : Fin 8192) (d : Fin 2048) : EReal := m ((c : Thread nD τ).loc main_arg0) (ix2 row d)

/-- One tile's contribution to a result entry: its 256 hidden values against their rows of the last matrix. -/
def tile (c : Dev nD) (row : Fin 8192) (d : Fin 2048) (s : Fin 28) : EReal :=
  ∑ j : Fin 256,
    HID (m ((c : Thread nD τ).loc main_arg0)) (m ((c : Thread nD τ).loc main_arg1)) (m ((c : Thread nD τ).loc main_arg2))
      (m ((c : Thread nD τ).loc main_arg3)) (ix2 row ⟨s.val * 256 + j.val, by omega⟩)
    * m ((c : Thread nD τ).loc main_arg4) (ix2 ⟨s.val * 256 + j.val, by omega⟩ d)

/-- The gated hidden values of a tile, from kept rows that are the normed ones. -/
theorem hidden (c : Dev nD) (t : Fin cfg0.N) (V' : FVec Ideal S512x2048 .f32) (S : FVec Ideal S512x2048 .bf16) (r : Fin 512) (d : Fin 2048)
    (hr : t.val / 28 * 512 + r.val < 8192)
    (hS : ∀ (k : Fin 2048), S (ix2 r k)
      = NORM (m ((c : Thread nD τ).loc main_arg0)) (m ((c : Thread nD τ).loc main_arg1)) (ix2 ⟨t.val / 28 * 512 + r.val, hr⟩ k)) :
    k0_pay2 (F := Ideal) V' S (iblk m c 2 t) (iblk m c 3 t) (iblk m c 4 t) (ix2 r d)
    = V' (ix2 r d) + tile m c ⟨t.val / 28 * 512 + r.val, hr⟩ d ⟨t.val % 28, (idx t).2.2.2.2.2.2.2⟩ := by
  unfold tile
  generalize hN : NORM (m ((c : Thread nD τ).loc main_arg0)) (m ((c : Thread nD τ).loc main_arg1)) = N at hS
  pointwise [k0_pay2, HID]
  rw [hN]
  have hg (k : Fin 2048) (x : Fin 256) : iblk m c 2 t (ix2 k x)
      = m ((c : Thread nD τ).loc main_arg2) (ix2 k ⟨t.val % 28 * 256 + x.val, by omega⟩) := by blk_ext [iblk, V, idx t]
  have hu (k : Fin 2048) (x : Fin 256) : iblk m c 3 t (ix2 k x)
      = m ((c : Thread nD τ).loc main_arg3) (ix2 k ⟨t.val % 28 * 256 + x.val, by omega⟩) := by blk_ext [iblk, V, idx t]
  have hd (x : Fin 256) : iblk m c 4 t (ix2 x d)
      = m ((c : Thread nD τ).loc main_arg4) (ix2 ⟨t.val % 28 * 256 + x.val, by omega⟩ d) := by blk_ext [iblk, V, idx t]
  simp only [hS, hg, hu, hd]
  rfl

/-- What the result rows hold after a point: the residual and the tiles so far. -/
theorem acc (c : Dev nD) : ∀ (n : ℕ) (h : n < cfg0.N) (r : Fin 512) (d : Fin 2048) (hr : n / 28 * 512 + r.val < 8192),
    (outsAt0 m c n h).1 (ix2 r d)
    = res m c ⟨n / 28 * 512 + r.val, hr⟩ d
      + ∑ s ∈ Finset.range (n % 28 + 1), if hs : s < 28 then tile m c ⟨n / 28 * 512 + r.val, hr⟩ d ⟨s, hs⟩ else 0 := by
  have first (t : Fin cfg0.N) (hA : t.val % 28 = 0) (r : Fin 512) (d : Fin 2048) (hr : t.val / 28 * 512 + r.val < 8192) :
      (outsAt0 m c t.val t.isLt).1 (ix2 r d)
      = res m c ⟨t.val / 28 * 512 + r.val, hr⟩ d
        + ∑ s ∈ Finset.range (t.val % 28 + 1), if hs : s < 28 then tile m c ⟨t.val / 28 * 512 + r.val, hr⟩ d ⟨s, hs⟩ else 0 := by
    rw [outsAt0_A m c t hA]; frame_out
    rw [hidden m c t _ _ r d hr fun k => normed m c t r k hr]
    simp only [hA, zero_add, Finset.sum_range_one]
    exact congrArg₂ _ (resid m c t r d hr) rfl
  intro n
  induction n with
  | zero => intro h; exact first ⟨0, h⟩ rfl
  | succ n ih =>
    intro h r d hr
    by_cases hA : (n + 1) % 28 = 0
    · exact first ⟨n + 1, h⟩ hA r d hr
    · have e : (n + 1) / 28 = n / 28 := by omega
      have e' : (n + 1) % 28 = n % 28 + 1 := by omega
      have hk := kept m c n (Nat.lt_of_succ_lt h) r
      have hi := ih (Nat.lt_of_succ_lt h) r d (e ▸ hr)
      rw [outsAt0_B m c ⟨n + 1, h⟩ hA]; frame_out
      refine (hidden m c ⟨n + 1, h⟩ _ _ r d hr fun k => ?_).trans ?_
      · refine (congrFun (Memref.IsWhole.read_unread (Memref.isWhole_whole _) _) _).trans ((hk k (e ▸ hr)).trans ?_)
        simp only [e]
      · rw [Finset.sum_range_succ, ← add_assoc, dif_pos (by omega)]
        refine congrArg₂ _ (hi.trans ?_) rfl
        simp only [e, e']

/-- The result array after the run is the reference's term. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have h27 := (flush0_5 t).mp hf
  have hi := idx t
  refine Eq.trans (congrArg _ (ix2_eta y).symm) ?_
  have hr : t.val / 28 * 512 + (y 0 : Fin 512).val < 8192 := by
    have h0 : (y 0 : Fin 512).val < 512 := (y 0 : Fin 512).isLt
    omega
  refine (acc m c t.val t.isLt (y 0) (y 1) hr).trans ?_
  rw [h27, Finset.sum_range]
  pointwise [REF]
  refine congrArg₂ _ ?_ (Fin.sum_mul_add_congr fun s k hl => Ideal.mul_congr ?_ ?_)
  · unfold res; blk_ext [idx t]
  · blk_ext [idx t]
  · blk_ext [idx t]

end Cert.Dense

end
-- ==== Proof.DenseClaim.lean ====
/- The value claim of the dense feed-forward: both programs end at the reference's term of the arguments. -/
module

public import proofs.«01_k».proof.Defs
public import proofs.«01_k».proof.Proof.Dense
public import proofs.«01_k».proof.Proof.Gen.Kernel3Ideal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Dense

/-- The kernel's and the reference's results are equal for equal arguments. -/
theorem algebraic : Cert.algebraic_Kernel3Ideal_Reference3Ideal := by
  pair_intro
  · run_from Cert.Kernel3Ideal.Gen.run_main m g
  · run_from Cert.Reference3Ideal.Value.run m' g'
    exact (final m c).symm

/-- The reference terminates and leaves its arguments unchanged. -/
theorem quiescent : Cert.quiescent_Reference3Ideal := by
  intro m g _
  exact (θ_run _ _ _).mono (fun r h => ⟨fun c => (h c).2, sem_eq_zero_of_no_sems rfl r.2⟩) (Cert.Reference3Ideal.Value.run m g)

end Cert.Dense

end
-- ==== Proof.InProj.lean ====
/- The input projection: at the first column tile of a row block the body norms the rows and keeps them, and every tile
   multiplies the kept rows with its columns of the matrix. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProj

open Cert.Kernel4Ideal Cert.Kernel4Ideal.Gen

variable (m : (ℓ : Loc nD τ sig) → Buf (Elt Ideal) ℓ)

/-- The rows with their root mean square divided out and the norm's weights multiplied in: the reference's lines. -/
def NORM (X : FVec Ideal Cert.Reference4Ideal.S8192x2048 .f32) (n : FVec Ideal Cert.Reference4Ideal.S2048 .f32) :
    FVec Ideal Cert.Reference4Ideal.S8192x2048 .f32 :=
  mulf (mulf X (broadcastInDim Cert.Reference4Ideal.S8192x2048 ![0, 1] Cert.Reference4Ideal.Gen.bcast_S8192x1_S8192x2048_0_1
    (Host.rsqrt (addf (Host.divf (broadcastInDim Cert.Reference4Ideal.S8192x1 ![0] Cert.Reference4Ideal.Gen.bcast_S8192_S8192x1_0
      (Host.reduceAdd (mulf X X) (constant Cert.Reference4Ideal.S_ .f32 0x00000000#32)
        Cert.Reference4Ideal.Gen.reducesTo_S8192x2048_S8192_d1 Cert.Reference4Ideal.Gen.h_S_))
      (broadcastInDim Cert.Reference4Ideal.S8192x1 ![] Cert.Reference4Ideal.Gen.bcast_S_S8192x1 (constant Cert.Reference4Ideal.S_ .f32 0x45000000#32)))
      (broadcastInDim Cert.Reference4Ideal.S8192x1 ![] Cert.Reference4Ideal.Gen.bcast_S_S8192x1 (constant Cert.Reference4Ideal.S_ .f32 0x358637BD#32))))))
    (broadcastInDim Cert.Reference4Ideal.S8192x2048 ![0, 1] Cert.Reference4Ideal.Gen.bcast_S1x2048_S8192x2048_0_1
      (broadcastInDim Cert.Reference4Ideal.S1x2048 ![1] Cert.Reference4Ideal.Gen.bcast_S2048_S1x2048_1 n))

/-- The reference's term over the rows, the norm's weights and the matrix. -/
def REF (X : FVec Ideal Cert.Reference4Ideal.S8192x2048 .f32) (n : FVec Ideal Cert.Reference4Ideal.S2048 .f32)
    (W : FVec Ideal Cert.Reference4Ideal.S2048x6656 .bf16) : FVec Ideal Cert.Reference4Ideal.S8192x6656 .f32 :=
  Host.dotGeneral Cert.Reference4Ideal.dot_S8192x2048_S2048x6656_S8192x6656_1_0_0_1_n_n none (NORM X n)
    (extf .f32 W Cert.Reference4Ideal.Gen.bitsLt_bf16_f32)

/-- Where each window's block lies at a grid point. -/
theorem idx : ∀ t : Fin cfg0.N, win0_0.index t = ![t.val / 4, 0] ∧ win0_1.index t = ![0, 0] ∧ win0_2.index t = ![0, t.val % 4]
    ∧ win0_3.index t = ![t.val / 4, t.val % 4] ∧ t.val / 4 < 16 :=
  (by decide +kernel : ∀ t : Fin grid0.N, _)

/-- The norm's weights as the kernel receives them: the vector as one row. -/
theorem V_norm (c : Dev nD) : V m c main_v0 = shapeCast S1x2048 (m ((c : Thread nD τ).loc main_arg1)) shapeCasts_S2048_S1x2048 := by
  entry_read; rfl

/-- A normed row of a block is the normed row of the array. -/
theorem normed (c : Dev nD) (t : Fin cfg0.N) (r : Fin 512) (k : Fin 2048) (hr : t.val / 4 * 512 + r.val < 8192) :
    k0_pay1 (F := Ideal) (iblk m c 0 t) (iblk m c 1 t) (ix2 r k)
    = NORM (m ((c : Thread nD τ).loc main_arg0)) (m ((c : Thread nD τ).loc main_arg1)) (ix2 ⟨t.val / 4 * 512 + r.val, hr⟩ k) := by
  pointwise [k0_pay1, NORM]
  blk_point [iblk, V, idx t]

/-- What the kept rows hold after a point: the normed rows of its row block. -/
theorem kept (c : Dev nD) : ∀ (n : ℕ) (h : n < cfg0.N) (r : Fin 512) (k : Fin 2048) (hr : n / 4 * 512 + r.val < 8192),
    (outsAt0 m c n h).2 (ix2 r k)
    = NORM (m ((c : Thread nD τ).loc main_arg0)) (m ((c : Thread nD τ).loc main_arg1)) (ix2 ⟨n / 4 * 512 + r.val, hr⟩ k) := by
  intro n
  induction n with
  | zero =>
    intro h r k hr
    rw [outsAt0_A m c ⟨0, h⟩ rfl]; frame_out
    exact normed m c ⟨0, h⟩ r k hr
  | succ n ih =>
    intro h r k hr
    by_cases hA : (n + 1) % 4 = 0
    · rw [outsAt0_A m c ⟨n + 1, h⟩ hA]; frame_out
      exact normed m c ⟨n + 1, h⟩ r k hr
    · rw [outsAt0_B m c ⟨n + 1, h⟩ hA]; frame_out
      have e : (n + 1) / 4 = n / 4 := by omega
      refine (ih (Nat.lt_of_succ_lt h) r k (e ▸ hr)).trans ?_
      simp only [e]

/-- What a point stores at an index of its block is the reference's value where that index lies in the array. -/
theorem point (c : Dev nD) (t : Fin cfg0.N) (S : FVec Ideal S512x2048 .bf16)
    (hS : ∀ (r : Fin 512) (k : Fin 2048) (hr : t.val / 4 * 512 + r.val < 8192), S (ix2 r k)
      = NORM (m ((c : Thread nD τ).loc main_arg0)) (m ((c : Thread nD τ).loc main_arg1)) (ix2 ⟨t.val / 4 * 512 + r.val, hr⟩ k)) (y) :
    k0_pay2 (F := Ideal) S (iblk m c 2 t) y
    = REF (m ((c : Thread nD τ).loc main_arg0)) (m ((c : Thread nD τ).loc main_arg1)) (m ((c : Thread nD τ).loc main_arg2))
        (((cfg0.win 3).blk t).view.emb y) := by
  have h4 := (idx t).2.2.2.2
  generalize hN : NORM (m ((c : Thread nD τ).loc main_arg0)) (m ((c : Thread nD τ).loc main_arg1)) = N at hS
  pointwise [k0_pay2, REF]
  rw [hN]
  refine Finset.sum_congr rfl fun k _ => ?_
  refine Ideal.mul_congr ((hS (y 0) k (by have := (y 0).isLt; have : (y 0 : ℕ) < 512 := this; omega)).trans ?_) ?_
  · blk_ext [idx t]
  · blk_ext [iblk, V, idx t]

/-- The result array after the run is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases hA : t.val % 4 = 0
  · rw [outsAt0_A m c t hA]; frame_out
    exact point m c t _ (fun r k hr => normed m c t r k hr) y
  · rw [outsAt0_B m c t hA]; frame_out
    refine point m c t _ (fun r k hr => ?_) y
    have e : (t.val - 1) / 4 = t.val / 4 := by omega
    refine (congrFun (Memref.IsWhole.read_unread (Memref.isWhole_whole _) _) _).trans ((kept m c _ _ r k (e ▸ hr)).trans ?_)
    simp only [e]

end Cert.InProj

end
-- ==== Proof.InProjClaim.lean ====
/- The value claim of the input projection: both programs end at the reference's term of the arguments. -/
module

public import proofs.«01_k».proof.Defs
public import proofs.«01_k».proof.Proof.InProj
public import proofs.«01_k».proof.Proof.Gen.Kernel4Ideal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.InProj

/-- The kernel's and the reference's results are equal for equal arguments. -/
theorem algebraic : Cert.algebraic_Kernel4Ideal_Reference4Ideal := by
  pair_intro
  · run_from Cert.Kernel4Ideal.Gen.run_main m g
  · run_from Cert.Reference4Ideal.Value.run m' g'
    exact (final m c).symm

/-- The reference terminates and leaves its arguments unchanged. -/
theorem quiescent : Cert.quiescent_Reference4Ideal := by
  intro m g _
  exact (θ_run _ _ _).mono (fun r h => ⟨fun c => (h c).2, sem_eq_zero_of_no_sems rfl r.2⟩) (Cert.Reference4Ideal.Value.run m g)

end Cert.InProj

end
-- ==== Proof.OutProj.lean ====
/- The output projection: each block of 512 rows is the residual plus the product of the three mixers' joined rows
   with the projection's matrix, which is what the reference computes of all rows at once. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProj

open Cert.Kernel5Ideal Cert.Kernel5Ideal.Gen

variable (m : (ℓ : Loc nD τ sig) → Buf (Elt Ideal) ℓ)

/-- The reference's term over the arrays of the mixers, the residual and the matrix. -/
def REF (A : FVec Ideal Cert.Reference5Ideal.S8192x512 .bf16) (B : FVec Ideal Cert.Reference5Ideal.S8192x1024 .bf16)
    (C : FVec Ideal Cert.Reference5Ideal.S8192x512 .bf16) (X : FVec Ideal Cert.Reference5Ideal.S8192x2048 .f32)
    (W : FVec Ideal Cert.Reference5Ideal.S2048x2048 .bf16) : FVec Ideal Cert.Reference5Ideal.S8192x2048 .f32 :=
  addf X (Host.dotGeneral Cert.Reference5Ideal.dot_S8192x2048_S2048x2048_S8192x2048_1_0_0_1_n_n none
    (extf .f32 (concatenate Cert.Reference5Ideal.S8192x2048 1
      [⟨Cert.Reference5Ideal.S8192x512, A⟩, ⟨Cert.Reference5Ideal.S8192x1024, B⟩, ⟨Cert.Reference5Ideal.S8192x512, C⟩]
      Cert.Reference5Ideal.Gen.concatenates_S8192x512_S8192x1024_S8192x512_S8192x2048_d1 : FVec Ideal Cert.Reference5Ideal.S8192x2048 .bf16)
      Cert.Reference5Ideal.Gen.bitsLt_bf16_f32)
    (extf .f32 W Cert.Reference5Ideal.Gen.bitsLt_bf16_f32))

/-- Where each window's block lies at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- What a grid point stores at an index of its block is the reference's value where that index lies in the array. -/
theorem point (c : Dev nD) (t : Fin cfg0.N) (y) :
    k0_pay1 (F := Ideal) (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 5).blk t).view.emb y) := by
  pointwise [k0_pay1, REF]
  blk_point [iblk, V, idx t]

/-- The result array after the run is the reference's term. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.OutProj

end
-- ==== Proof.OutProjClaim.lean ====
/- The value claim of the output projection: both programs end at the reference's term of the arguments. -/
module

public import proofs.«01_k».proof.Defs
public import proofs.«01_k».proof.Proof.OutProj
public import proofs.«01_k».proof.Proof.Gen.Kernel5Ideal.Value
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.OutProj

/-- The kernel's and the reference's results are equal for equal arguments. -/
theorem algebraic : Cert.algebraic_Kernel5Ideal_Reference5Ideal := by
  pair_intro
  · run_from Cert.Kernel5Ideal.Gen.run_main m g
  · run_from Cert.Reference5Ideal.Value.run m' g'
    exact (final m c).symm

/-- The reference terminates and leaves its arguments unchanged. -/
theorem quiescent : Cert.quiescent_Reference5Ideal := by
  intro m g _
  exact (θ_run _ _ _).mono (fun r h => ⟨fun c => (h c).2, sem_eq_zero_of_no_sems rfl r.2⟩) (Cert.Reference5Ideal.Value.run m g)

end Cert.OutProj

end
-- ==== Proof.lean ====
/- The claims of the five calls put together. -/
module

public import proofs.«01_k».proof.Defs
public import proofs.«01_k».proof.Proof.Gen.Kernel.Frame
public import proofs.«01_k».proof.Proof.SwaClaim
public import proofs.«01_k».proof.Proof.MoeTables
public import proofs.«01_k».proof.Proof.MoeClaim
public import proofs.«01_k».proof.Proof.Gen.Kernel3.Frame
public import proofs.«01_k».proof.Proof.Gen.Kernel4.Frame
public import proofs.«01_k».proof.Proof.Gen.Kernel5.Frame
public import proofs.«01_k».proof.Proof.DenseClaim
public import proofs.«01_k».proof.Proof.InProjClaim
public import proofs.«01_k».proof.Proof.OutProjClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Pre_finite_scores.Gen.facts, Cert.Pre_routed.Gen.facts,
   fun m ρ _ => Cert.Kernel.Gen.frame m ρ, fun m ρ _ => Cert.KernelIdeal.Gen.frame m ρ, fun m ρ _ => Cert.KernelIdeal.Gen.frame m ρ,
   Cert.Swa.quiescent, Cert.Swa.quiescent_finite,
   Cert.Kernel2.Moe.quiescent, Cert.Kernel2Ideal.Moe.quiescent, Cert.MoeValue.quiescent, Cert.MoeValue.quiescent_routed,
   fun m ρ _ => Cert.Kernel3.Gen.frame m ρ, fun m ρ _ => Cert.Kernel3Ideal.Gen.frame m ρ, Cert.Dense.quiescent,
   fun m ρ _ => Cert.Kernel4.Gen.frame m ρ, fun m ρ _ => Cert.Kernel4Ideal.Gen.frame m ρ, Cert.InProj.quiescent,
   fun m ρ _ => Cert.Kernel5.Gen.frame m ρ, fun m ρ _ => Cert.Kernel5Ideal.Gen.frame m ρ, Cert.OutProj.quiescent,
   trivial, Cert.Swa.algebraic, trivial, Cert.MoeValue.algebraic, trivial, Cert.Dense.algebraic, trivial, Cert.InProj.algebraic,
   trivial, Cert.OutProj.algebraic⟩

end Cert.Proof

end
